-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v12)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v12) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v20)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v20) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v33) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v19) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v27) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v14_0)) (v1 : (c : Dev Cert.Kernel19Ideal.nD) → Buf (Elt Ideal) ((c.tc : Thread Cert.Kernel19Ideal.nD Cert.Kernel19Ideal.τ).loc Cert.Kernel19Ideal.main_v14_1)) (v2 : (c : Dev Cert.Kernel19Ideal.nD) → Buf (Elt Ideal) ((c.tc : Thread Cert.Kernel19Ideal.nD Cert.Kernel19Ideal.τ).loc Cert.Kernel19Ideal.main_v14_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v14_0) = v0 c
          ∧ r.2.mem ((c.tc : Thread Cert.Kernel19Ideal.nD Cert.Kernel19Ideal.τ).loc Cert.Kernel19Ideal.main_v14_1) = v1 c
          ∧ r.2.mem ((c.tc : Thread Cert.Kernel19Ideal.nD Cert.Kernel19Ideal.τ).loc Cert.Kernel19Ideal.main_v14_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_v18) = v1 c
          ∧ r.2.mem ((c.tc : Thread Cert.Reference19Ideal.nD Cert.Reference19Ideal.τ).loc Cert.Reference19Ideal.main_v21) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S16384x3072 : Shape := ⟨2, ![16384, 3072]⟩
abbrev S16384x128 : Shape := ⟨2, ![16384, 128]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  bcast_S_S16384x128 : S_.BroadcastsInDim S16384x128 (![] : Fin 0 → Fin S16384x128.rank)

variable [Facts]

def fn_part1 {F : FTy → Type} [FloatOps F] (main_v3 : IVec S16384x3072 1) (main_v7 : IVec S16384x3072 1) (main_v11 : IVec S16384x128 1) (main_v15 : IVec S16384x128 1) (main_v17 : FVec F S16384x128 .f32) (main_v18 : FVec F S16384x128 .f32) : IVec S16384x3072 1 × IVec S16384x3072 1 × IVec S16384x128 1 × IVec S16384x128 1 × IVec S16384x128 1 :=
  let main_v19 : IVec S16384x128 1 := cmpf .olt main_v17 main_v18
  (main_v3, main_v7, main_v11, main_v15, main_v19)

def fn {F : FTy → Type} [FloatOps F] (main_arg0 : FVec F S16384x3072 .bf16) (main_arg1 : FVec F S16384x3072 .bf16) (main_arg2 : FVec F S16384x3072 .bf16) (main_arg3 : FVec F S16384x128 .bf16) (main_arg4 : FVec F S16384x128 .bf16) (main_arg5 : FVec F S16384x128 .bf16) : IVec S16384x3072 1 × IVec S16384x3072 1 × IVec S16384x128 1 × IVec S16384x128 1 × IVec S16384x128 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_v4 : FVec F S16384x3072 .f32 := (extf .f32 · bitsLt_bf16_f32) main_arg1
  let main_v5 : FVec F S16384x3072 .f32 := Host.absf main_v4
  let main_cst_0 : FVec F S_ .f32 := constant S_ .f32 0x7F800000#32
  let main_v6 : FVec F S16384x3072 .f32 := broadcastInDim S16384x3072 ![] bcast_S_S16384x3072 main_cst_0
  let main_v7 : IVec S16384x3072 1 := cmpf .olt main_v5 main_v6
  let main_v8 : FVec F S16384x128 .f32 := (extf .f32 · bitsLt_bf16_f32) main_arg3
  let main_v9 : FVec F S16384x128 .f32 := Host.absf main_v8
  let main_cst_1 : FVec F S_ .f32 := constant S_ .f32 0x7F800000#32
  let main_v10 : FVec F S16384x128 .f32 := broadcastInDim S16384x128 ![] bcast_S_S16384x128 main_cst_1
  let main_v11 : IVec S16384x128 1 := cmpf .olt main_v9 main_v10
  let main_v12 : FVec F S16384x128 .f32 := (extf .f32 · bitsLt_bf16_f32) main_arg4
  let main_v13 : FVec F S16384x128 .f32 := Host.absf main_v12
  let main_cst_2 : FVec F S_ .f32 := constant S_ .f32 0x7F800000#32
  let main_v14 : FVec F S16384x128 .f32 := broadcastInDim S16384x128 ![] bcast_S_S16384x128 main_cst_2
  let main_v15 : IVec S16384x128 1 := cmpf .olt main_v13 main_v14
  let main_v16 : FVec F S16384x128 .f32 := (extf .f32 · bitsLt_bf16_f32) main_arg5
  let main_v17 : FVec F S16384x128 .f32 := Host.absf main_v16
  let main_cst_3 : FVec F S_ .f32 := constant S_ .f32 0x7F800000#32
  let main_v18 : FVec F S16384x128 .f32 := broadcastInDim S16384x128 ![] bcast_S_S16384x128 main_cst_3
  fn_part1 (F := F) main_v3 main_v7 main_v11 main_v15 main_v17 main_v18
-- ==== Kernel.lean ====
abbrev S16384x3072 : Shape := ⟨2, ![16384, 3072]⟩
abbrev S16384x128 : Shape := ⟨2, ![16384, 128]⟩
abbrev S16384x24 : Shape := ⟨2, ![16384, 24]⟩
abbrev S16384x24x1 : Shape := ⟨3, ![16384, 24, 1]⟩
abbrev S16384x24x3 : Shape := ⟨3, ![16384, 24, 3]⟩
abbrev S_ : Shape := ⟨0, ![]⟩
abbrev S16384x24x6 : Shape := ⟨3, ![16384, 24, 6]⟩
abbrev S16384x24x128 : Shape := ⟨3, ![16384, 24, 128]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 14
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .bf16⟩
  | .hbm, ⟨2, _⟩ => ⟨S16384x3072, .bf16⟩
  | .hbm, ⟨3, _⟩ => ⟨S16384x128, .bf16⟩
  | .hbm, ⟨4, _⟩ => ⟨S16384x128, .bf16⟩
  | .hbm, ⟨5, _⟩ => ⟨S16384x128, .bf16⟩
  | .hbm, ⟨6, _⟩ => ⟨S16384x24, .bf16⟩
  | .hbm, ⟨7, _⟩ => ⟨S16384x24, .bf16⟩
  | .hbm, ⟨8, _⟩ => ⟨S16384x24, .bf16⟩
  | .hbm, ⟨9, _⟩ => ⟨S16384x24x1, .bf16⟩
  | .hbm, ⟨10, _⟩ => ⟨S16384x24x1, .bf16⟩
  | .hbm, ⟨11, _⟩ => ⟨S16384x24x1, .bf16⟩
  | .hbm, ⟨12, _⟩ => ⟨S16384x24x3, .bf16⟩
  | .hbm, ⟨13, _⟩ => ⟨S_, .bf16⟩
  | .hbm, ⟨14, _⟩ => ⟨S16384x24x3, .bf16⟩
  | .hbm, ⟨15, _⟩ => ⟨S16384x24x6, .bf16⟩
  | .hbm, ⟨16, _⟩ => ⟨S_, .i32⟩
  | .hbm, ⟨17, _⟩ => ⟨S_, .bf16⟩
  | .hbm, ⟨18, _⟩ => ⟨S16384x24x128, .bf16⟩
  | .hbm, ⟨19, _⟩ => ⟨S16384x3072, .bf16⟩
  | .hbm, ⟨20, _⟩ => ⟨S16384x24x3, .bf16⟩
  | .hbm, ⟨21, _⟩ => ⟨S16384x24x6, .bf16⟩
  | .hbm, ⟨22, _⟩ => ⟨S_, .i32⟩
  | .hbm, ⟨23, _⟩ => ⟨S_, .bf16⟩
  | .hbm, ⟨24, _⟩ => ⟨S16384x24x128, .bf16⟩
  | .hbm, ⟨25, _⟩ => ⟨S16384x3072, .bf16⟩
  | .hbm, ⟨26, _⟩ => ⟨S16384x3072, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S16384x128, .bf16⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x256, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 32], ![false, false]⟩

@[reducible] def k0_t1_loop (i : grid0.Coords) : Scf.Loop 32 :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c4_i32 : BitVec 32 := 4#32
  let c0_i32_9 : BitVec 32 := 0#32
  let v18 : BitVec 1 := Scalar.cmpi .sgt c4_i32 c0_i32_9
  let v19 : BitVec 32 := Scalar.extui v18
  let c0_i32_10 : BitVec 32 := 0#32
  let v20 : BitVec 1 := Scalar.cmpi .slt c4_i32 c0_i32_10
  let v21 : BitVec 32 := Scalar.extui v20
  let v22 : BitVec 32 := Scalar.subi v19 v21
  let v23 : BitVec 1 := Scalar.cmpi .ne v17 v22
  let v24 : BitVec 32 := Scalar.remsi arg1 c4_i32
  let c0_i32_11 : BitVec 32 := 0#32
  let v25 : BitVec 1 := Scalar.cmpi .ne v24 c0_i32_11
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_15 : BitVec 32 := 1#32
  ⟨c0_i32_13, v33, c1_i32_15⟩
def k0_mult1 (i : grid0.Coords) (k0_t1 : Fin (k0_t1_loop i).trips) : BitVec 32 :=
  let c0_i32_13 : BitVec 32 := 0#32
  let c1_i32_15 : BitVec 32 := 1#32
  let arg10 : BitVec 32 := Scf.iv c0_i32_13 c1_i32_15 k0_t1
  let c4_i32_53 : BitVec 32 := 4#32
  let v110 : BitVec 32 := Scalar.muli arg10 c4_i32_53
  let c0_i32_54 : BitVec 32 := 0#32
  let v111 : BitVec 32 := Scalar.addi v110 c0_i32_54
  let c512_i32_55 : BitVec 32 := 512#32
  let v112 : BitVec 32 := Scalar.muli v111 c512_i32_55
  v112
def k0_off1 (i : grid0.Coords) (k0_t1 : Fin (k0_t1_loop i).trips) (c0_i32_54 : BitVec 32) : Fin 2 → Nat :=
  let c0_i32_13 : BitVec 32 := 0#32
  let c1_i32_15 : BitVec 32 := 1#32
  let arg10 : BitVec 32 := Scf.iv c0_i32_13 c1_i32_15 k0_t1
  let c4_i32_53 : BitVec 32 := 4#32
  let v110 : BitVec 32 := Scalar.muli arg10 c4_i32_53
  let v111 : BitVec 32 := Scalar.addi v110 c0_i32_54
  let c512_i32_55 : BitVec 32 := 512#32
  let v112 : BitVec 32 := Scalar.muli v111 c512_i32_55
  let v113 : BitVec 32 := v112
  let v114 : Index := Scalar.indexCast v113
  let c0_56 : Index := 0#32
  ![v114.toNat, 0]
def k0_mult2 (i : grid0.Coords) (k0_t1 : Fin (k0_t1_loop i).trips) : BitVec 32 :=
  let c0_i32_13 : BitVec 32 := 0#32
  let c1_i32_15 : BitVec 32 := 1#32
  let arg10 : BitVec 32 := Scf.iv c0_i32_13 c1_i32_15 k0_t1
  let c4_i32_71 : BitVec 32 := 4#32
  let v147 : BitVec 32 := Scalar.muli arg10 c4_i32_71
  let c1_i32_72 : BitVec 32 := 1#32
  let v148 : BitVec 32 := Scalar.addi v147 c1_i32_72
  let c512_i32_73 : BitVec 32 := 512#32
  let v149 : BitVec 32 := Scalar.muli v148 c512_i32_73
  v149
def k0_mult3 (i : grid0.Coords) (k0_t1 : Fin (k0_t1_loop i).trips) : BitVec 32 :=
  let c0_i32_13 : BitVec 32 := 0#32
  let c1_i32_15 : BitVec 32 := 1#32
  let arg10 : BitVec 32 := Scf.iv c0_i32_13 c1_i32_15 k0_t1
  let c4_i32_89 : BitVec 32 := 4#32
  let v184 : BitVec 32 := Scalar.muli arg10 c4_i32_89
  let c2_i32_90 : BitVec 32 := 2#32
  let v185 : BitVec 32 := Scalar.addi v184 c2_i32_90
  let c512_i32_91 : BitVec 32 := 512#32
  let v186 : BitVec 32 := Scalar.muli v185 c512_i32_91
  v186
def k0_mult4 (i : grid0.Coords) (k0_t1 : Fin (k0_t1_loop i).trips) : BitVec 32 :=
  let c0_i32_13 : BitVec 32 := 0#32
  let c1_i32_15 : BitVec 32 := 1#32
  let arg10 : BitVec 32 := Scf.iv c0_i32_13 c1_i32_15 k0_t1
  let c4_i32_107 : BitVec 32 := 4#32
  let v221 : BitVec 32 := Scalar.muli arg10 c4_i32_107
  let c3_i32 : BitVec 32 := 3#32
  let v222 : BitVec 32 := Scalar.addi v221 c3_i32
  let c512_i32_108 : BitVec 32 := 512#32
  let v223 : BitVec 32 := Scalar.muli v222 c512_i32_108
  v223
@[reducible] def k0_t2_loop (i : grid0.Coords) : Scf.Loop 32 :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c4_i32 : BitVec 32 := 4#32
  let c0_i32_9 : BitVec 32 := 0#32
  let v18 : BitVec 1 := Scalar.cmpi .sgt c4_i32 c0_i32_9
  let v19 : BitVec 32 := Scalar.extui v18
  let c0_i32_10 : BitVec 32 := 0#32
  let v20 : BitVec 1 := Scalar.cmpi .slt c4_i32 c0_i32_10
  let v21 : BitVec 32 := Scalar.extui v20
  let v22 : BitVec 32 := Scalar.subi v19 v21
  let v23 : BitVec 1 := Scalar.cmpi .ne v17 v22
  let v24 : BitVec 32 := Scalar.remsi arg1 c4_i32
  let c0_i32_11 : BitVec 32 := 0#32
  let v25 : BitVec 1 := Scalar.cmpi .ne v24 c0_i32_11
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let v30 : BitVec 32 := Scalar.addi c0_i32_13 v29
  let c1_i32_16 : BitVec 32 := 1#32
  ⟨v33, v30, c1_i32_16⟩
def k0_mult5 (i : grid0.Coords) (k0_t2 : Fin (k0_t2_loop i).trips) : BitVec 32 :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c4_i32 : BitVec 32 := 4#32
  let c0_i32_9 : BitVec 32 := 0#32
  let v18 : BitVec 1 := Scalar.cmpi .sgt c4_i32 c0_i32_9
  let v19 : BitVec 32 := Scalar.extui v18
  let c0_i32_10 : BitVec 32 := 0#32
  let v20 : BitVec 1 := Scalar.cmpi .slt c4_i32 c0_i32_10
  let v21 : BitVec 32 := Scalar.extui v20
  let v22 : BitVec 32 := Scalar.subi v19 v21
  let v23 : BitVec 1 := Scalar.cmpi .ne v17 v22
  let v24 : BitVec 32 := Scalar.remsi arg1 c4_i32
  let c0_i32_11 : BitVec 32 := 0#32
  let v25 : BitVec 1 := Scalar.cmpi .ne v24 c0_i32_11
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg10 : BitVec 32 := Scf.iv v33 c1_i32_16 k0_t2
  let c4_i32_53 : BitVec 32 := 4#32
  let v110 : BitVec 32 := Scalar.muli arg10 c4_i32_53
  let c0_i32_54 : BitVec 32 := 0#32
  let v111 : BitVec 32 := Scalar.addi v110 c0_i32_54
  let c512_i32_55 : BitVec 32 := 512#32
  let v112 : BitVec 32 := Scalar.muli v111 c512_i32_55
  v112
def k0_off2 (i : grid0.Coords) (k0_t2 : Fin (k0_t2_loop i).trips) (c0_i32_54 : BitVec 32) : Fin 2 → Nat :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c4_i32 : BitVec 32 := 4#32
  let c0_i32_9 : BitVec 32 := 0#32
  let v18 : BitVec 1 := Scalar.cmpi .sgt c4_i32 c0_i32_9
  let v19 : BitVec 32 := Scalar.extui v18
  let c0_i32_10 : BitVec 32 := 0#32
  let v20 : BitVec 1 := Scalar.cmpi .slt c4_i32 c0_i32_10
  let v21 : BitVec 32 := Scalar.extui v20
  let v22 : BitVec 32 := Scalar.subi v19 v21
  let v23 : BitVec 1 := Scalar.cmpi .ne v17 v22
  let v24 : BitVec 32 := Scalar.remsi arg1 c4_i32
  let c0_i32_11 : BitVec 32 := 0#32
  let v25 : BitVec 1 := Scalar.cmpi .ne v24 c0_i32_11
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg10 : BitVec 32 := Scf.iv v33 c1_i32_16 k0_t2
  let c4_i32_53 : BitVec 32 := 4#32
  let v110 : BitVec 32 := Scalar.muli arg10 c4_i32_53
  let v111 : BitVec 32 := Scalar.addi v110 c0_i32_54
  let c512_i32_55 : BitVec 32 := 512#32
  let v112 : BitVec 32 := Scalar.muli v111 c512_i32_55
  let v113 : BitVec 32 := v112
  let v114 : Index := Scalar.indexCast v113
  let c0_56 : Index := 0#32
  ![v114.toNat, 0]
def k0_mult6 (i : grid0.Coords) (k0_t2 : Fin (k0_t2_loop i).trips) : BitVec 32 :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c4_i32 : BitVec 32 := 4#32
  let c0_i32_9 : BitVec 32 := 0#32
  let v18 : BitVec 1 := Scalar.cmpi .sgt c4_i32 c0_i32_9
  let v19 : BitVec 32 := Scalar.extui v18
  let c0_i32_10 : BitVec 32 := 0#32
  let v20 : BitVec 1 := Scalar.cmpi .slt c4_i32 c0_i32_10
  let v21 : BitVec 32 := Scalar.extui v20
  let v22 : BitVec 32 := Scalar.subi v19 v21
  let v23 : BitVec 1 := Scalar.cmpi .ne v17 v22
  let v24 : BitVec 32 := Scalar.remsi arg1 c4_i32
  let c0_i32_11 : BitVec 32 := 0#32
  let v25 : BitVec 1 := Scalar.cmpi .ne v24 c0_i32_11
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg10 : BitVec 32 := Scf.iv v33 c1_i32_16 k0_t2
  let c4_i32_71 : BitVec 32 := 4#32
  let v147 : BitVec 32 := Scalar.muli arg10 c4_i32_71
  let c1_i32_72 : BitVec 32 := 1#32
  let v148 : BitVec 32 := Scalar.addi v147 c1_i32_72
  let c512_i32_73 : BitVec 32 := 512#32
  let v149 : BitVec 32 := Scalar.muli v148 c512_i32_73
  v149
def k0_mult7 (i : grid0.Coords) (k0_t2 : Fin (k0_t2_loop i).trips) : BitVec 32 :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c4_i32 : BitVec 32 := 4#32
  let c0_i32_9 : BitVec 32 := 0#32
  let v18 : BitVec 1 := Scalar.cmpi .sgt c4_i32 c0_i32_9
  let v19 : BitVec 32 := Scalar.extui v18
  let c0_i32_10 : BitVec 32 := 0#32
  let v20 : BitVec 1 := Scalar.cmpi .slt c4_i32 c0_i32_10
  let v21 : BitVec 32 := Scalar.extui v20
  let v22 : BitVec 32 := Scalar.subi v19 v21
  let v23 : BitVec 1 := Scalar.cmpi .ne v17 v22
  let v24 : BitVec 32 := Scalar.remsi arg1 c4_i32
  let c0_i32_11 : BitVec 32 := 0#32
  let v25 : BitVec 1 := Scalar.cmpi .ne v24 c0_i32_11
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg10 : BitVec 32 := Scf.iv v33 c1_i32_16 k0_t2
  let c4_i32_89 : BitVec 32 := 4#32
  let v184 : BitVec 32 := Scalar.muli arg10 c4_i32_89
  let c2_i32_90 : BitVec 32 := 2#32
  let v185 : BitVec 32 := Scalar.addi v184 c2_i32_90
  let c512_i32_91 : BitVec 32 := 512#32
  let v186 : BitVec 32 := Scalar.muli v185 c512_i32_91
  v186
def k0_mult8 (i : grid0.Coords) (k0_t2 : Fin (k0_t2_loop i).trips) : BitVec 32 :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c4_i32 : BitVec 32 := 4#32
  let c0_i32_9 : BitVec 32 := 0#32
  let v18 : BitVec 1 := Scalar.cmpi .sgt c4_i32 c0_i32_9
  let v19 : BitVec 32 := Scalar.extui v18
  let c0_i32_10 : BitVec 32 := 0#32
  let v20 : BitVec 1 := Scalar.cmpi .slt c4_i32 c0_i32_10
  let v21 : BitVec 32 := Scalar.extui v20
  let v22 : BitVec 32 := Scalar.subi v19 v21
  let v23 : BitVec 1 := Scalar.cmpi .ne v17 v22
  let v24 : BitVec 32 := Scalar.remsi arg1 c4_i32
  let c0_i32_11 : BitVec 32 := 0#32
  let v25 : BitVec 1 := Scalar.cmpi .ne v24 c0_i32_11
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg10 : BitVec 32 := Scf.iv v33 c1_i32_16 k0_t2
  let c4_i32_107 : BitVec 32 := 4#32
  let v221 : BitVec 32 := Scalar.muli arg10 c4_i32_107
  let c3_i32 : BitVec 32 := 3#32
  let v222 : BitVec 32 := Scalar.addi v221 c3_i32
  let c512_i32_108 : BitVec 32 := 512#32
  let v223 : BitVec 32 := Scalar.muli v222 c512_i32_108
  v223
def k0_cond1 (i : grid0.Coords) : BitVec 1 :=
  let arg1 : BitVec 32 := BitVec.ofNat 32 (i 1).val
  let c2_i32 : BitVec 32 := 2#32
  let v52 : BitVec 32 := Scalar.andi arg1 c2_i32
  let c0_i32_25 : BitVec 32 := 0#32
  let v53 : BitVec 1 := Scalar.cmpi .ne v52 c0_i32_25
  let v54 : BitVec 32 := Scalar.extui v53
  let c0_i32_26 : BitVec 32 := 0#32
  let v55 : BitVec 1 := Scalar.cmpi .ne v54 c0_i32_26
  v55

def k0_mult9 (i : grid0.Coords) : BitVec 32 :=
  let arg1 : BitVec 32 := BitVec.ofNat 32 (i 1).val
  let c0_i32_18 : BitVec 32 := 0#32
  let v35 : BitVec 1 := Scalar.cmpi .sgt arg1 c0_i32_18
  let v36 : BitVec 32 := Scalar.extui v35
  let c0_i32_19 : BitVec 32 := 0#32
  let v37 : BitVec 1 := Scalar.cmpi .slt arg1 c0_i32_19
  let v38 : BitVec 32 := Scalar.extui v37
  let v39 : BitVec 32 := Scalar.subi v36 v38
  let c4_i32_17 : BitVec 32 := 4#32
  let c0_i32_20 : BitVec 32 := 0#32
  let v40 : BitVec 1 := Scalar.cmpi .sgt c4_i32_17 c0_i32_20
  let v41 : BitVec 32 := Scalar.extui v40
  let c0_i32_21 : BitVec 32 := 0#32
  let v42 : BitVec 1 := Scalar.cmpi .slt c4_i32_17 c0_i32_21
  let v43 : BitVec 32 := Scalar.extui v42
  let v44 : BitVec 32 := Scalar.subi v41 v43
  let v45 : BitVec 1 := Scalar.cmpi .ne v39 v44
  let v46 : BitVec 32 := Scalar.remsi arg1 c4_i32_17
  let c0_i32_22 : BitVec 32 := 0#32
  let v47 : BitVec 1 := Scalar.cmpi .ne v46 c0_i32_22
  let v48 : BitVec 1 := Scalar.andi v45 v47
  let v34 : BitVec 32 := Scalar.divsi arg1 c4_i32_17
  let c1_i32_23 : BitVec 32 := 1#32
  let v49 : BitVec 32 := Scalar.subi v34 c1_i32_23
  let v50 : BitVec 32 := Scalar.select v48 v49 v34
  let c4_i32_24 : BitVec 32 := 4#32
  let v51 : BitVec 32 := Scalar.muli v50 c4_i32_24
  let c0_i32_53 : BitVec 32 := 0#32
  let v110 : BitVec 32 := Scalar.addi v51 c0_i32_53
  let c512_i32_54 : BitVec 32 := 512#32
  let v111 : BitVec 32 := Scalar.muli v110 c512_i32_54
  v111
def k0_off3 (i : grid0.Coords) (c0_i32_53 : BitVec 32) : Fin 2 → Nat :=
  let arg1 : BitVec 32 := BitVec.ofNat 32 (i 1).val
  let c0_i32_18 : BitVec 32 := 0#32
  let v35 : BitVec 1 := Scalar.cmpi .sgt arg1 c0_i32_18
  let v36 : BitVec 32 := Scalar.extui v35
  let c0_i32_19 : BitVec 32 := 0#32
  let v37 : BitVec 1 := Scalar.cmpi .slt arg1 c0_i32_19
  let v38 : BitVec 32 := Scalar.extui v37
  let v39 : BitVec 32 := Scalar.subi v36 v38
  let c4_i32_17 : BitVec 32 := 4#32
  let c0_i32_20 : BitVec 32 := 0#32
  let v40 : BitVec 1 := Scalar.cmpi .sgt c4_i32_17 c0_i32_20
  let v41 : BitVec 32 := Scalar.extui v40
  let c0_i32_21 : BitVec 32 := 0#32
  let v42 : BitVec 1 := Scalar.cmpi .slt c4_i32_17 c0_i32_21
  let v43 : BitVec 32 := Scalar.extui v42
  let v44 : BitVec 32 := Scalar.subi v41 v43
  let v45 : BitVec 1 := Scalar.cmpi .ne v39 v44
  let v46 : BitVec 32 := Scalar.remsi arg1 c4_i32_17
  let c0_i32_22 : BitVec 32 := 0#32
  let v47 : BitVec 1 := Scalar.cmpi .ne v46 c0_i32_22
  let v48 : BitVec 1 := Scalar.andi v45 v47
  let v34 : BitVec 32 := Scalar.divsi arg1 c4_i32_17
  let c1_i32_23 : BitVec 32 := 1#32
  let v49 : BitVec 32 := Scalar.subi v34 c1_i32_23
  let v50 : BitVec 32 := Scalar.select v48 v49 v34
  let c4_i32_24 : BitVec 32 := 4#32
  let v51 : BitVec 32 := Scalar.muli v50 c4_i32_24
  let v110 : BitVec 32 := Scalar.addi v51 c0_i32_53
  let c512_i32_54 : BitVec 32 := 512#32
  let v111 : BitVec 32 := Scalar.muli v110 c512_i32_54
  let v112 : BitVec 32 := v111
  let v113 : Index := Scalar.indexCast v112
  let c0_55 : Index := 0#32
  ![v113.toNat, 0]
def k0_mult10 (i : grid0.Coords) : BitVec 32 :=
  let arg1 : BitVec 32 := BitVec.ofNat 32 (i 1).val
  let c0_i32_18 : BitVec 32 := 0#32
  let v35 : BitVec 1 := Scalar.cmpi .sgt arg1 c0_i32_18
  let v36 : BitVec 32 := Scalar.extui v35
  let c0_i32_19 : BitVec 32 := 0#32
  let v37 : BitVec 1 := Scalar.cmpi .slt arg1 c0_i32_19
  let v38 : BitVec 32 := Scalar.extui v37
  let v39 : BitVec 32 := Scalar.subi v36 v38
  let c4_i32_17 : BitVec 32 := 4#32
  let c0_i32_20 : BitVec 32 := 0#32
  let v40 : BitVec 1 := Scalar.cmpi .sgt c4_i32_17 c0_i32_20
  let v41 : BitVec 32 := Scalar.extui v40
  let c0_i32_21 : BitVec 32 := 0#32
  let v42 : BitVec 1 := Scalar.cmpi .slt c4_i32_17 c0_i32_21
  let v43 : BitVec 32 := Scalar.extui v42
  let v44 : BitVec 32 := Scalar.subi v41 v43
  let v45 : BitVec 1 := Scalar.cmpi .ne v39 v44
  let v46 : BitVec 32 := Scalar.remsi arg1 c4_i32_17
  let c0_i32_22 : BitVec 32 := 0#32
  let v47 : BitVec 1 := Scalar.cmpi .ne v46 c0_i32_22
  let v48 : BitVec 1 := Scalar.andi v45 v47
  let v34 : BitVec 32 := Scalar.divsi arg1 c4_i32_17
  let c1_i32_23 : BitVec 32 := 1#32
  let v49 : BitVec 32 := Scalar.subi v34 c1_i32_23
  let v50 : BitVec 32 := Scalar.select v48 v49 v34
  let c4_i32_24 : BitVec 32 := 4#32
  let v51 : BitVec 32 := Scalar.muli v50 c4_i32_24
  let c1_i32_70 : BitVec 32 := 1#32
  let v146 : BitVec 32 := Scalar.addi v51 c1_i32_70
  let c512_i32_71 : BitVec 32 := 512#32
  let v147 : BitVec 32 := Scalar.muli v146 c512_i32_71
  v147
def k0_cond2 (i : grid0.Coords) : BitVec 1 :=
  let arg1 : BitVec 32 := BitVec.ofNat 32 (i 1).val
  let c1_i32_29 : BitVec 32 := 1#32
  let v58 : BitVec 32 := Scalar.andi arg1 c1_i32_29
  let c0_i32_30 : BitVec 32 := 0#32
  let v59 : BitVec 1 := Scalar.cmpi .ne v58 c0_i32_30
  let v60 : BitVec 32 := Scalar.extui v59
  let c0_i32_31 : BitVec 32 := 0#32
  let v61 : BitVec 1 := Scalar.cmpi .ne v60 c0_i32_31
  v61

def k0_mult11 (i : grid0.Coords) : BitVec 32 :=
  let arg1 : BitVec 32 := BitVec.ofNat 32 (i 1).val
  let c0_i32_18 : BitVec 32 := 0#32
  let v35 : BitVec 1 := Scalar.cmpi .sgt arg1 c0_i32_18
  let v36 : BitVec 32 := Scalar.extui v35
  let c0_i32_19 : BitVec 32 := 0#32
  let v37 : BitVec 1 := Scalar.cmpi .slt arg1 c0_i32_19
  let v38 : BitVec 32 := Scalar.extui v37
  let v39 : BitVec 32 := Scalar.subi v36 v38
  let c4_i32_17 : BitVec 32 := 4#32
  let c0_i32_20 : BitVec 32 := 0#32
  let v40 : BitVec 1 := Scalar.cmpi .sgt c4_i32_17 c0_i32_20
  let v41 : BitVec 32 := Scalar.extui v40
  let c0_i32_21 : BitVec 32 := 0#32
  let v42 : BitVec 1 := Scalar.cmpi .slt c4_i32_17 c0_i32_21
  let v43 : BitVec 32 := Scalar.extui v42
  let v44 : BitVec 32 := Scalar.subi v41 v43
  let v45 : BitVec 1 := Scalar.cmpi .ne v39 v44
  let v46 : BitVec 32 := Scalar.remsi arg1 c4_i32_17
  let c0_i32_22 : BitVec 32 := 0#32
  let v47 : BitVec 1 := Scalar.cmpi .ne v46 c0_i32_22
  let v48 : BitVec 1 := Scalar.andi v45 v47
  let v34 : BitVec 32 := Scalar.divsi arg1 c4_i32_17
  let c1_i32_23 : BitVec 32 := 1#32
  let v49 : BitVec 32 := Scalar.subi v34 c1_i32_23
  let v50 : BitVec 32 := Scalar.select v48 v49 v34
  let c4_i32_24 : BitVec 32 := 4#32
  let v51 : BitVec 32 := Scalar.muli v50 c4_i32_24
  let c2_i32 : BitVec 32 := 2#32
  let v52 : BitVec 32 := Scalar.andi arg1 c2_i32
  let c0_i32_25 : BitVec 32 := 0#32
  let v53 : BitVec 1 := Scalar.cmpi .ne v52 c0_i32_25
  let c2_i32_27 : BitVec 32 := 2#32
  let c0_i32_28 : BitVec 32 := 0#32
  let v56 : BitVec 32 := Scalar.select v53 c2_i32_27 c0_i32_28
  let v57 : BitVec 32 := Scalar.addi v51 v56
  let c0_i32_53 : BitVec 32 := 0#32
  let v110 : BitVec 32 := Scalar.addi v57 c0_i32_53
  let c512_i32_54 : BitVec 32 := 512#32
  let v111 : BitVec 32 := Scalar.muli v110 c512_i32_54
  v111
def k0_off4 (i : grid0.Coords) : Fin 2 → Nat :=
  let arg1 : BitVec 32 := BitVec.ofNat 32 (i 1).val
  let c0_i32_18 : BitVec 32 := 0#32
  let v35 : BitVec 1 := Scalar.cmpi .sgt arg1 c0_i32_18
  let v36 : BitVec 32 := Scalar.extui v35
  let c0_i32_19 : BitVec 32 := 0#32
  let v37 : BitVec 1 := Scalar.cmpi .slt arg1 c0_i32_19
  let v38 : BitVec 32 := Scalar.extui v37
  let v39 : BitVec 32 := Scalar.subi v36 v38
  let c4_i32_17 : BitVec 32 := 4#32
  let c0_i32_20 : BitVec 32 := 0#32
  let v40 : BitVec 1 := Scalar.cmpi .sgt c4_i32_17 c0_i32_20
  let v41 : BitVec 32 := Scalar.extui v40
  let c0_i32_21 : BitVec 32 := 0#32
  let v42 : BitVec 1 := Scalar.cmpi .slt c4_i32_17 c0_i32_21
  let v43 : BitVec 32 := Scalar.extui v42
  let v44 : BitVec 32 := Scalar.subi v41 v43
  let v45 : BitVec 1 := Scalar.cmpi .ne v39 v44
  let v46 : BitVec 32 := Scalar.remsi arg1 c4_i32_17
  let c0_i32_22 : BitVec 32 := 0#32
  let v47 : BitVec 1 := Scalar.cmpi .ne v46 c0_i32_22
  let v48 : BitVec 1 := Scalar.andi v45 v47
  let v34 : BitVec 32 := Scalar.divsi arg1 c4_i32_17
  let c1_i32_23 : BitVec 32 := 1#32
  let v49 : BitVec 32 := Scalar.subi v34 c1_i32_23
  let v50 : BitVec 32 := Scalar.select v48 v49 v34
  let c4_i32_24 : BitVec 32 := 4#32
  let v51 : BitVec 32 := Scalar.muli v50 c4_i32_24
  let c2_i32 : BitVec 32 := 2#32
  let v52 : BitVec 32 := Scalar.andi arg1 c2_i32
  let c0_i32_25 : BitVec 32 := 0#32
  let v53 : BitVec 1 := Scalar.cmpi .ne v52 c0_i32_25
  let c2_i32_27 : BitVec 32 := 2#32
  let c0_i32_28 : BitVec 32 := 0#32
  let v56 : BitVec 32 := Scalar.select v53 c2_i32_27 c0_i32_28
  let v57 : BitVec 32 := Scalar.addi v51 v56
  let c0_i32_53 : BitVec 32 := 0#32
  let v110 : BitVec 32 := Scalar.addi v57 c0_i32_53
  let c512_i32_54 : BitVec 32 := 512#32
  let v111 : BitVec 32 := Scalar.muli v110 c512_i32_54
  let v112 : BitVec 32 := v111
  let v113 : Index := Scalar.indexCast v112
  let c0_55 : Index := 0#32
  ![v113.toNat, 0]
def k0_mult12 (i : grid0.Coords) : BitVec 32 :=
  let arg1 : BitVec 32 := BitVec.ofNat 32 (i 1).val
  let c512_i32 : BitVec 32 := 512#32
  let v62 : BitVec 32 := Scalar.muli arg1 c512_i32
  v62
def k0_off5 (i : grid0.Coords) : Fin 2 → Nat :=
  let arg1 : BitVec 32 := BitVec.ofNat 32 (i 1).val
  let c512_i32 : BitVec 32 := 512#32
  let v62 : BitVec 32 := Scalar.muli arg1 c512_i32
  let v63 : BitVec 32 := v62
  let v64 : Index := Scalar.indexCast v63
  let c0_32 : Index := 0#32
  ![v64.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x3072 : Shape := ⟨2, ![16384, 3072]⟩
abbrev S16384x128 : Shape := ⟨2, ![16384, 128]⟩
abbrev S16384x24x128 : Shape := ⟨3, ![16384, 24, 128]⟩
abbrev S16384x24 : Shape := ⟨2, ![16384, 24]⟩
abbrev S24x16384 : Shape := ⟨2, ![24, 16384]⟩
abbrev S16384 : Shape := ⟨1, ![16384]⟩
abbrev S24x16384x16384 : Shape := ⟨3, ![24, 16384, 16384]⟩
abbrev S24x16384x1 : Shape := ⟨3, ![24, 16384, 1]⟩
abbrev S24x1x16384 : Shape := ⟨3, ![24, 1, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S24x128x16384 : Shape := ⟨3, ![24, 128, 16384]⟩

abbrev nBuf : Space → Nat
  | .hbm => 61
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .bf16⟩
  | .hbm, ⟨2, _⟩ => ⟨S16384x3072, .bf16⟩
  | .hbm, ⟨3, _⟩ => ⟨S16384x128, .bf16⟩
  | .hbm, ⟨4, _⟩ => ⟨S16384x128, .bf16⟩
  | .hbm, ⟨5, _⟩ => ⟨S16384x128, .bf16⟩
  | .hbm, ⟨6, _⟩ => ⟨S16384x3072, .f32⟩
  | .hbm, ⟨7, _⟩ => ⟨S16384x24x128, .f32⟩
  | .hbm, ⟨8, _⟩ => ⟨S16384x3072, .f32⟩
  | .hbm, ⟨9, _⟩ => ⟨S16384x24x128, .f32⟩
  | .hbm, ⟨10, _⟩ => ⟨S16384x3072, .f32⟩
  | .hbm, ⟨11, _⟩ => ⟨S16384x24x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x24, .f32⟩
  | .hbm, ⟨18, _⟩ => ⟨S24x16384, .f32⟩
  | .hbm, ⟨19, _⟩ => ⟨S16384, .i32⟩
  | .hbm, ⟨20, _⟩ => ⟨S24x16384x16384, .f32⟩
  | .hbm, ⟨21, _⟩ => ⟨S24x16384x1, .f32⟩
  | .hbm, ⟨22, _⟩ => ⟨S24x16384x16384, .f32⟩
  | .hbm, ⟨23, _⟩ => ⟨S24x16384x16384, .f32⟩
  | .hbm, ⟨24, _⟩ => ⟨S24x1x16384, .f32⟩
  | .hbm, ⟨25, _⟩ => ⟨S24x16384x16384, .f32⟩
  | .hbm, ⟨26, _⟩ => ⟨S24x16384x16384, .f32⟩
  | .hbm, ⟨27, _⟩ => ⟨S_, .f32⟩
  | .hbm, ⟨28, _⟩ => ⟨S_, .f32⟩
  | .hbm, ⟨29, _⟩ => ⟨S24x16384x16384, .f32⟩
  | .hbm, ⟨30, _⟩ => ⟨S24x16384x16384, .f32⟩
  | .hbm, ⟨31, _⟩ => ⟨S1x16384, .i32⟩
  | .hbm, ⟨32, _⟩ => ⟨S16384x1, .i32⟩
  | .hbm, ⟨33, _⟩ => ⟨S16384x16384, .i32⟩
  | .hbm, ⟨34, _⟩ => ⟨S16384x16384, .i32⟩
  | .hbm, ⟨35, _⟩ => ⟨S16384x16384, .i1⟩
  | .hbm, ⟨36, _⟩ => ⟨S_, .f32⟩
  | .hbm, ⟨37, _⟩ => ⟨S_, .f32⟩
  | .hbm, ⟨38, _⟩ => ⟨S24x16384x16384, .i1⟩
  | .hbm, ⟨39, _⟩ => ⟨S24x16384x16384, .f32⟩
  | .hbm, ⟨40, _⟩ => ⟨S24x16384x16384, .f32⟩
  | .hbm, ⟨41, _⟩ => ⟨S_, .f32⟩
  | .hbm, ⟨42, _⟩ => ⟨S24x16384, .f32⟩
  | .hbm, ⟨43, _⟩ => ⟨S_, .f32⟩
  | .hbm, ⟨44, _⟩ => ⟨S24x16384, .f32⟩
  | .hbm, ⟨45, _⟩ => ⟨S24x16384, .f32⟩
  | .hbm, ⟨46, _⟩ => ⟨S24x16384x1, .f32⟩
  | .hbm, ⟨47, _⟩ => ⟨S24x16384x16384, .f32⟩
  | .hbm, ⟨48, _⟩ => ⟨S24x16384x16384, .f32⟩
  | .hbm, ⟨49, _⟩ => ⟨S24x16384x16384, .f32⟩
  | .hbm, ⟨50, _⟩ => ⟨S_, .f32⟩
  | .hbm, ⟨51, _⟩ => ⟨S24x16384, .f32⟩
  | .hbm, ⟨52, _⟩ => ⟨S24x16384x1, .f32⟩
  | .hbm, ⟨53, _⟩ => ⟨S24x16384x16384, .f32⟩
  | .hbm, ⟨54, _⟩ => ⟨S24x16384x16384, .f32⟩
  | .hbm, ⟨55, _⟩ => ⟨S24x16384x16384, .bf16⟩
  | .hbm, ⟨56, _⟩ => ⟨S24x16384x16384, .f32⟩
  | .hbm, ⟨57, _⟩ => ⟨S24x128x16384, .f32⟩
  | .hbm, ⟨58, _⟩ => ⟨S16384x24x128, .f32⟩
  | .hbm, ⟨59, _⟩ => ⟨S16384x3072, .f32⟩
  | .hbm, ⟨60, _⟩ => ⟨S16384x3072, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel2.lean ====
abbrev S16384x4096 : Shape := ⟨2, ![16384, 4096]⟩
abbrev S4096x11264 : Shape := ⟨2, ![4096, 11264]⟩
abbrev S16384x11264 : Shape := ⟨2, ![16384, 11264]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S4096x11264, .bf16⟩
  | .hbm, ⟨3, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x11264 : Shape := ⟨2, ![4096, 11264]⟩
abbrev S16384x11264 : Shape := ⟨2, ![16384, 11264]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S4096x11264, .bf16⟩
  | .hbm, ⟨3, _⟩ => ⟨S16384x11264, .f32⟩
  | .hbm, ⟨4, _⟩ => ⟨S16384x11264, .f32⟩
  | .hbm, ⟨5, _⟩ => ⟨S16384x11264, .f32⟩
  | .hbm, ⟨6, _⟩ => ⟨S16384x11264, .f32⟩
  | .hbm, ⟨7, _⟩ => ⟨S_, .f32⟩
  | .hbm, ⟨8, _⟩ => ⟨S16384x11264, .f32⟩
  | .hbm, ⟨9, _⟩ => ⟨S16384x11264, .f32⟩
  | .hbm, ⟨10, _⟩ => ⟨S_, .f32⟩
  | .hbm, ⟨11, _⟩ => ⟨S16384x11264, .f32⟩
  | .hbm, ⟨12, _⟩ => ⟨S16384x11264, .f32⟩
  | .hbm, ⟨13, _⟩ => ⟨S16384x11264, .f32⟩
  | .hbm, ⟨14, _⟩ => ⟨S16384x11264, .f32⟩
  | .hbm, ⟨15, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel3.lean ====
abbrev S16384x11264 : Shape := ⟨2, ![16384, 11264]⟩
abbrev S11264x4096 : Shape := ⟨2, ![11264, 4096]⟩
abbrev S16384x4096 : Shape := ⟨2, ![16384, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S16384x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16384x11264 : Shape := ⟨2, ![16384, 11264]⟩
abbrev S11264x4096 : Shape := ⟨2, ![11264, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S16384x4096, .f32⟩
  | .hbm, ⟨4, _⟩ => ⟨S16384x4096, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S16384x4096 : Shape := ⟨2, ![16384, 4096]⟩
abbrev S4096x4096 : Shape := ⟨2, ![4096, 4096]⟩
abbrev S16384x256 : Shape := ⟨2, ![16384, 256]⟩
abbrev S256x4096 : Shape := ⟨2, ![256, 4096]⟩
abbrev S1024x4096 : Shape := ⟨2, ![1024, 4096]⟩
abbrev S4096x512 : Shape := ⟨2, ![4096, 512]⟩
abbrev S1024x512 : Shape := ⟨2, ![1024, 512]⟩
abbrev S1024x256 : Shape := ⟨2, ![1024, 256]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x256, .bf16⟩
  | .hbm, ⟨4, _⟩ => ⟨S256x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x256, .bf16⟩
  | .local _ .vmem, ⟨7, _⟩ => ⟨S1024x256, .bf16⟩
  | .local _ .vmem, ⟨8, _⟩ => ⟨S256x512, .bf16⟩
  | .local _ .vmem, ⟨9, _⟩ => ⟨S256x512, .bf16⟩
  | .local _ .vmem, ⟨10, _⟩ => ⟨S1024x512, .f32⟩
  | .local _ .vmem, ⟨11, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S16384x4096 : Shape := ⟨2, ![16384, 4096]⟩
abbrev S4096x4096 : Shape := ⟨2, ![4096, 4096]⟩
abbrev S16384x256 : Shape := ⟨2, ![16384, 256]⟩
abbrev S256x4096 : Shape := ⟨2, ![256, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x256, .bf16⟩
  | .hbm, ⟨4, _⟩ => ⟨S256x4096, .bf16⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel5.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S16384x4096 : Shape := ⟨2, ![16384, 4096]⟩
abbrev S4096x3072 : Shape := ⟨2, ![4096, 3072]⟩
abbrev S128 : Shape := ⟨1, ![128]⟩
abbrev S1x128 : Shape := ⟨2, ![1, 128]⟩
abbrev S24x128 : Shape := ⟨2, ![24, 128]⟩
abbrev S3072 : Shape := ⟨1, ![3072]⟩
abbrev S1x3072 : Shape := ⟨2, ![1, 3072]⟩
abbrev S16384x3072 : Shape := ⟨2, ![16384, 3072]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x3072, .bf16⟩
  | .hbm, ⟨2, _⟩ => ⟨S128, .f32⟩
  | .hbm, ⟨3, _⟩ => ⟨S1x128, .f32⟩
  | .hbm, ⟨4, _⟩ => ⟨S24x128, .f32⟩
  | .hbm, ⟨5, _⟩ => ⟨S3072, .f32⟩
  | .hbm, ⟨6, _⟩ => ⟨S1x3072, .f32⟩
  | .hbm, ⟨7, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S16384x4096 : Shape := ⟨2, ![16384, 4096]⟩
abbrev S4096x3072 : Shape := ⟨2, ![4096, 3072]⟩
abbrev S128 : Shape := ⟨1, ![128]⟩
abbrev S16384x3072 : Shape := ⟨2, ![16384, 3072]⟩
abbrev S16384x24x128 : Shape := ⟨3, ![16384, 24, 128]⟩
abbrev S_ : Shape := ⟨0, ![]⟩
abbrev S16384x24 : Shape := ⟨2, ![16384, 24]⟩
abbrev S16384x24x1 : Shape := ⟨3, ![16384, 24, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x3072, .bf16⟩
  | .hbm, ⟨2, _⟩ => ⟨S128, .f32⟩
  | .hbm, ⟨3, _⟩ => ⟨S16384x3072, .f32⟩
  | .hbm, ⟨4, _⟩ => ⟨S16384x24x128, .f32⟩
  | .hbm, ⟨5, _⟩ => ⟨S16384x24x128, .f32⟩
  | .hbm, ⟨6, _⟩ => ⟨S_, .f32⟩
  | .hbm, ⟨7, _⟩ => ⟨S16384x24, .f32⟩
  | .hbm, ⟨8, _⟩ => ⟨S16384x24x1, .f32⟩
  | .hbm, ⟨9, _⟩ => ⟨S_, .f32⟩
  | .hbm, ⟨10, _⟩ => ⟨S16384x24x1, .f32⟩
  | .hbm, ⟨11, _⟩ => ⟨S16384x24x1, .f32⟩
  | .hbm, ⟨12, _⟩ => ⟨S_, .f32⟩
  | .hbm, ⟨13, _⟩ => ⟨S16384x24x1, .f32⟩
  | .hbm, ⟨14, _⟩ => ⟨S16384x24x1, .f32⟩
  | .hbm, ⟨15, _⟩ => ⟨S16384x24x1, .f32⟩
  | .hbm, ⟨16, _⟩ => ⟨S16384x24x128, .f32⟩
  | .hbm, ⟨17, _⟩ => ⟨S16384x24x128, .f32⟩
  | .hbm, ⟨18, _⟩ => ⟨S1x1x128, .f32⟩
  | .hbm, ⟨19, _⟩ => ⟨S16384x24x128, .f32⟩
  | .hbm, ⟨20, _⟩ => ⟨S16384x24x128, .f32⟩
  | .hbm, ⟨21, _⟩ => ⟨S_, .f32⟩
  | .hbm, ⟨22, _⟩ => ⟨S16384x24x128, .f32⟩
  | .hbm, ⟨23, _⟩ => ⟨S16384x24x128, .f32⟩
  | .hbm, ⟨24, _⟩ => ⟨S16384x3072, .f32⟩
  | .hbm, ⟨25, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel7.lean ====
abbrev S16384x4096 : Shape := ⟨2, ![16384, 4096]⟩
abbrev S4096x3072 : Shape := ⟨2, ![4096, 3072]⟩
abbrev S128 : Shape := ⟨1, ![128]⟩
abbrev S1x128 : Shape := ⟨2, ![1, 128]⟩
abbrev S24x128 : Shape := ⟨2, ![24, 128]⟩
abbrev S3072 : Shape := ⟨1, ![3072]⟩
abbrev S1x3072 : Shape := ⟨2, ![1, 3072]⟩
abbrev S16384x3072 : Shape := ⟨2, ![16384, 3072]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x3072, .bf16⟩
  | .hbm, ⟨2, _⟩ => ⟨S128, .f32⟩
  | .hbm, ⟨3, _⟩ => ⟨S1x128, .f32⟩
  | .hbm, ⟨4, _⟩ => ⟨S24x128, .f32⟩
  | .hbm, ⟨5, _⟩ => ⟨S3072, .f32⟩
  | .hbm, ⟨6, _⟩ => ⟨S1x3072, .f32⟩
  | .hbm, ⟨7, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S16384x4096 : Shape := ⟨2, ![16384, 4096]⟩
abbrev S4096x3072 : Shape := ⟨2, ![4096, 3072]⟩
abbrev S128 : Shape := ⟨1, ![128]⟩
abbrev S16384x3072 : Shape := ⟨2, ![16384, 3072]⟩
abbrev S16384x24x128 : Shape := ⟨3, ![16384, 24, 128]⟩
abbrev S_ : Shape := ⟨0, ![]⟩
abbrev S16384x24 : Shape := ⟨2, ![16384, 24]⟩
abbrev S16384x24x1 : Shape := ⟨3, ![16384, 24, 1]⟩
abbrev S1x1x128 : Shape := ⟨3, ![1, 1, 128]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x3072, .bf16⟩
  | .hbm, ⟨2, _⟩ => ⟨S128, .f32⟩
  | .hbm, ⟨3, _⟩ => ⟨S16384x3072, .f32⟩
  | .hbm, ⟨4, _⟩ => ⟨S16384x24x128, .f32⟩
  | .hbm, ⟨5, _⟩ => ⟨S16384x24x128, .f32⟩
  | .hbm, ⟨6, _⟩ => ⟨S_, .f32⟩
  | .hbm, ⟨7, _⟩ => ⟨S16384x24, .f32⟩
  | .hbm, ⟨8, _⟩ => ⟨S16384x24x1, .f32⟩
  | .hbm, ⟨9, _⟩ => ⟨S_, .f32⟩
  | .hbm, ⟨10, _⟩ => ⟨S16384x24x1, .f32⟩
  | .hbm, ⟨11, _⟩ => ⟨S16384x24x1, .f32⟩
  | .hbm, ⟨12, _⟩ => ⟨S_, .f32⟩
  | .hbm, ⟨13, _⟩ => ⟨S16384x24x1, .f32⟩
  | .hbm, ⟨14, _⟩ => ⟨S16384x24x1, .f32⟩
  | .hbm, ⟨15, _⟩ => ⟨S16384x24x1, .f32⟩
  | .hbm, ⟨16, _⟩ => ⟨S16384x24x128, .f32⟩
  | .hbm, ⟨17, _⟩ => ⟨S16384x24x128, .f32⟩
  | .hbm, ⟨18, _⟩ => ⟨S1x1x128, .f32⟩
  | .hbm, ⟨19, _⟩ => ⟨S16384x24x128, .f32⟩
  | .hbm, ⟨20, _⟩ => ⟨S16384x24x128, .f32⟩
  | .hbm, ⟨21, _⟩ => ⟨S16384x3072, .f32⟩
  | .hbm, ⟨22, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S16384x4096 : Shape := ⟨2, ![16384, 4096]⟩
abbrev S4096x3072 : Shape := ⟨2, ![4096, 3072]⟩
abbrev S16384x3072 : Shape := ⟨2, ![16384, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x3072, .bf16⟩
  | .hbm, ⟨2, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x4096 : Shape := ⟨2, ![16384, 4096]⟩
abbrev S4096x3072 : Shape := ⟨2, ![4096, 3072]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x3072, .bf16⟩
  | .hbm, ⟨2, _⟩ => ⟨S16384x3072, .f32⟩
  | .hbm, ⟨3, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S16384x4096 : Shape := ⟨2, ![16384, 4096]⟩
abbrev S4096x6144 : Shape := ⟨2, ![4096, 6144]⟩
abbrev S16384x6144 : Shape := ⟨2, ![16384, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S16384x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x4096 : Shape := ⟨2, ![16384, 4096]⟩
abbrev S4096x6144 : Shape := ⟨2, ![4096, 6144]⟩
abbrev S16384x6144 : Shape := ⟨2, ![16384, 6144]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S16384x6144, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S16384x4096 : Shape := ⟨2, ![16384, 4096]⟩
abbrev S4096x1536 : Shape := ⟨2, ![4096, 1536]⟩
abbrev S16384x1536 : Shape := ⟨2, ![16384, 1536]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x1536, .bf16⟩
  | .hbm, ⟨2, _⟩ => ⟨S16384x1536, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x4096 : Shape := ⟨2, ![16384, 4096]⟩
abbrev S4096x1536 : Shape := ⟨2, ![4096, 1536]⟩
abbrev S16384x1536 : Shape := ⟨2, ![16384, 1536]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1536, .bf16⟩
  | .hbm, ⟨2, _⟩ => ⟨S16384x1536, .f32⟩
  | .hbm, ⟨3, _⟩ => ⟨S16384x1536, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S16384x4096 : Shape := ⟨2, ![16384, 4096]⟩
abbrev S4096x1024 : Shape := ⟨2, ![4096, 1024]⟩
abbrev S16384x1024 : Shape := ⟨2, ![16384, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x4096 : Shape := ⟨2, ![16384, 4096]⟩
abbrev S4096x1024 : Shape := ⟨2, ![4096, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S16384x4096 : Shape := ⟨2, ![16384, 4096]⟩
abbrev S4096x2048 : Shape := ⟨2, ![4096, 2048]⟩
abbrev S128 : Shape := ⟨1, ![128]⟩
abbrev S16384x16 : Shape := ⟨2, ![16384, 16]⟩
abbrev S1x128 : Shape := ⟨2, ![1, 128]⟩
abbrev S16x128 : Shape := ⟨2, ![16, 128]⟩
abbrev S2048 : Shape := ⟨1, ![2048]⟩
abbrev S_ : Shape := ⟨0, ![]⟩
abbrev S16384x96 : Shape := ⟨2, ![16384, 96]⟩
abbrev S16384x128 : Shape := ⟨2, ![16384, 128]⟩
abbrev S16384x112 : Shape := ⟨2, ![16384, 112]⟩
abbrev S1x2048 : Shape := ⟨2, ![1, 2048]⟩
abbrev S16384x2048 : Shape := ⟨2, ![16384, 2048]⟩
abbrev S1024x4096 : Shape := ⟨2, ![1024, 4096]⟩
abbrev S4096x512 : Shape := ⟨2, ![4096, 512]⟩
abbrev S1x512 : Shape := ⟨2, ![1, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 22
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S128, .f32⟩
  | .hbm, ⟨3, _⟩ => ⟨S16384x16, .f32⟩
  | .hbm, ⟨4, _⟩ => ⟨S16384x16, .f32⟩
  | .hbm, ⟨5, _⟩ => ⟨S1x128, .f32⟩
  | .hbm, ⟨6, _⟩ => ⟨S16x128, .f32⟩
  | .hbm, ⟨7, _⟩ => ⟨S2048, .f32⟩
  | .hbm, ⟨8, _⟩ => ⟨S_, .f32⟩
  | .hbm, ⟨9, _⟩ => ⟨S16384x96, .f32⟩
  | .hbm, ⟨10, _⟩ => ⟨S16384x128, .f32⟩
  | .hbm, ⟨11, _⟩ => ⟨S16384x16, .f32⟩
  | .hbm, ⟨12, _⟩ => ⟨S_, .f32⟩
  | .hbm, ⟨13, _⟩ => ⟨S16384x112, .f32⟩
  | .hbm, ⟨14, _⟩ => ⟨S16384x128, .f32⟩
  | .hbm, ⟨15, _⟩ => ⟨S_, .f32⟩
  | .hbm, ⟨16, _⟩ => ⟨S16384x16, .f32⟩
  | .hbm, ⟨17, _⟩ => ⟨S_, .f32⟩
  | .hbm, ⟨18, _⟩ => ⟨S16384x96, .f32⟩
  | .hbm, ⟨19, _⟩ => ⟨S16384x128, .f32⟩
  | .hbm, ⟨20, _⟩ => ⟨S1x2048, .f32⟩
  | .hbm, ⟨21, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x512, .bf16⟩
  | .local _ .vmem, ⟨13, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference12Ideal.lean ====
abbrev S16384x4096 : Shape := ⟨2, ![16384, 4096]⟩
abbrev S4096x2048 : Shape := ⟨2, ![4096, 2048]⟩
abbrev S128 : Shape := ⟨1, ![128]⟩
abbrev S16384x16 : Shape := ⟨2, ![16384, 16]⟩
abbrev S16384x2048 : Shape := ⟨2, ![16384, 2048]⟩
abbrev S16384x16x128 : Shape := ⟨3, ![16384, 16, 128]⟩
abbrev S_ : Shape := ⟨0, ![]⟩
abbrev S16384x16x1 : Shape := ⟨3, ![16384, 16, 1]⟩
abbrev S1x1x128 : Shape := ⟨3, ![1, 1, 128]⟩
abbrev S16384x1x16 : Shape := ⟨3, ![16384, 1, 16]⟩
abbrev S16384x16x16 : Shape := ⟨3, ![16384, 16, 16]⟩
abbrev S16384x16x96 : Shape := ⟨3, ![16384, 16, 96]⟩

abbrev nBuf : Space → Nat
  | .hbm => 44
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S128, .f32⟩
  | .hbm, ⟨3, _⟩ => ⟨S16384x16, .f32⟩
  | .hbm, ⟨4, _⟩ => ⟨S16384x16, .f32⟩
  | .hbm, ⟨5, _⟩ => ⟨S16384x2048, .f32⟩
  | .hbm, ⟨6, _⟩ => ⟨S16384x16x128, .f32⟩
  | .hbm, ⟨7, _⟩ => ⟨S16384x16x128, .f32⟩
  | .hbm, ⟨8, _⟩ => ⟨S_, .f32⟩
  | .hbm, ⟨9, _⟩ => ⟨S16384x16, .f32⟩
  | .hbm, ⟨10, _⟩ => ⟨S16384x16x1, .f32⟩
  | .hbm, ⟨11, _⟩ => ⟨S_, .f32⟩
  | .hbm, ⟨12, _⟩ => ⟨S16384x16x1, .f32⟩
  | .hbm, ⟨13, _⟩ => ⟨S16384x16x1, .f32⟩
  | .hbm, ⟨14, _⟩ => ⟨S_, .f32⟩
  | .hbm, ⟨15, _⟩ => ⟨S16384x16x1, .f32⟩
  | .hbm, ⟨16, _⟩ => ⟨S16384x16x1, .f32⟩
  | .hbm, ⟨17, _⟩ => ⟨S16384x16x1, .f32⟩
  | .hbm, ⟨18, _⟩ => ⟨S16384x16x128, .f32⟩
  | .hbm, ⟨19, _⟩ => ⟨S16384x16x128, .f32⟩
  | .hbm, ⟨20, _⟩ => ⟨S1x1x128, .f32⟩
  | .hbm, ⟨21, _⟩ => ⟨S16384x16x128, .f32⟩
  | .hbm, ⟨22, _⟩ => ⟨S16384x16x128, .f32⟩
  | .hbm, ⟨23, _⟩ => ⟨S16384x1x16, .f32⟩
  | .hbm, ⟨24, _⟩ => ⟨S16384x1x16, .f32⟩
  | .hbm, ⟨25, _⟩ => ⟨S16384x16x16, .f32⟩
  | .hbm, ⟨26, _⟩ => ⟨S16384x16x16, .f32⟩
  | .hbm, ⟨27, _⟩ => ⟨S16384x16x16, .f32⟩
  | .hbm, ⟨28, _⟩ => ⟨S16384x16x16, .f32⟩
  | .hbm, ⟨29, _⟩ => ⟨S16384x16x16, .f32⟩
  | .hbm, ⟨30, _⟩ => ⟨S16384x16x16, .f32⟩
  | .hbm, ⟨31, _⟩ => ⟨S16384x16x16, .f32⟩
  | .hbm, ⟨32, _⟩ => ⟨S16384x16x16, .f32⟩
  | .hbm, ⟨33, _⟩ => ⟨S16384x16x16, .f32⟩
  | .hbm, ⟨34, _⟩ => ⟨S16384x16x16, .f32⟩
  | .hbm, ⟨35, _⟩ => ⟨S16384x16x16, .f32⟩
  | .hbm, ⟨36, _⟩ => ⟨S16384x16x16, .f32⟩
  | .hbm, ⟨37, _⟩ => ⟨S16384x16x96, .f32⟩
  | .hbm, ⟨38, _⟩ => ⟨S16384x16x128, .f32⟩
  | .hbm, ⟨39, _⟩ => ⟨S_, .f32⟩
  | .hbm, ⟨40, _⟩ => ⟨S16384x16x128, .f32⟩
  | .hbm, ⟨41, _⟩ => ⟨S16384x16x128, .f32⟩
  | .hbm, ⟨42, _⟩ => ⟨S16384x2048, .f32⟩
  | .hbm, ⟨43, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel13.lean ====
abbrev S16384x4096 : Shape := ⟨2, ![16384, 4096]⟩
abbrev S4096x1024 : Shape := ⟨2, ![4096, 1024]⟩
abbrev S2x128 : Shape := ⟨2, ![2, 128]⟩
abbrev S16384x16 : Shape := ⟨2, ![16384, 16]⟩
abbrev S1x128 : Shape := ⟨2, ![1, 128]⟩
abbrev S128 : Shape := ⟨1, ![128]⟩
abbrev S4x128 : Shape := ⟨2, ![4, 128]⟩
abbrev S512 : Shape := ⟨1, ![512]⟩
abbrev S1024 : Shape := ⟨1, ![1024]⟩
abbrev S_ : Shape := ⟨0, ![]⟩
abbrev S16384x96 : Shape := ⟨2, ![16384, 96]⟩
abbrev S16384x128 : Shape := ⟨2, ![16384, 128]⟩
abbrev S16384x112 : Shape := ⟨2, ![16384, 112]⟩
abbrev S1x1024 : Shape := ⟨2, ![1, 1024]⟩
abbrev S16384x1024 : Shape := ⟨2, ![16384, 1024]⟩
abbrev S1024x4096 : Shape := ⟨2, ![1024, 4096]⟩
abbrev S4096x512 : Shape := ⟨2, ![4096, 512]⟩
abbrev S1x512 : Shape := ⟨2, ![1, 512]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 30
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S2x128, .f32⟩
  | .hbm, ⟨3, _⟩ => ⟨S16384x16, .f32⟩
  | .hbm, ⟨4, _⟩ => ⟨S16384x16, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S4x128, .f32⟩
  | .hbm, ⟨9, _⟩ => ⟨S512, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S4x128, .f32⟩
  | .hbm, ⟨14, _⟩ => ⟨S512, .f32⟩
  | .hbm, ⟨15, _⟩ => ⟨S1024, .f32⟩
  | .hbm, ⟨16, _⟩ => ⟨S_, .f32⟩
  | .hbm, ⟨17, _⟩ => ⟨S16384x96, .f32⟩
  | .hbm, ⟨18, _⟩ => ⟨S16384x128, .f32⟩
  | .hbm, ⟨19, _⟩ => ⟨S16384x16, .f32⟩
  | .hbm, ⟨20, _⟩ => ⟨S_, .f32⟩
  | .hbm, ⟨21, _⟩ => ⟨S16384x112, .f32⟩
  | .hbm, ⟨22, _⟩ => ⟨S16384x128, .f32⟩
  | .hbm, ⟨23, _⟩ => ⟨S_, .f32⟩
  | .hbm, ⟨24, _⟩ => ⟨S16384x16, .f32⟩
  | .hbm, ⟨25, _⟩ => ⟨S_, .f32⟩
  | .hbm, ⟨26, _⟩ => ⟨S16384x96, .f32⟩
  | .hbm, ⟨27, _⟩ => ⟨S16384x128, .f32⟩
  | .hbm, ⟨28, _⟩ => ⟨S1x1024, .f32⟩
  | .hbm, ⟨29, _⟩ => ⟨S16384x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x512, .bf16⟩
  | .local _ .vmem, ⟨13, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference13Ideal.lean ====
abbrev S16384x4096 : Shape := ⟨2, ![16384, 4096]⟩
abbrev S4096x1024 : Shape := ⟨2, ![4096, 1024]⟩
abbrev S2x128 : Shape := ⟨2, ![2, 128]⟩
abbrev S16384x16 : Shape := ⟨2, ![16384, 16]⟩
abbrev S16384x1024 : Shape := ⟨2, ![16384, 1024]⟩
abbrev S16384x2x4x128 : Shape := ⟨4, ![16384, 2, 4, 128]⟩
abbrev S_ : Shape := ⟨0, ![]⟩
abbrev S16384x2x4 : Shape := ⟨3, ![16384, 2, 4]⟩
abbrev S16384x2x4x1 : Shape := ⟨4, ![16384, 2, 4, 1]⟩
abbrev S1x2x1x128 : Shape := ⟨4, ![1, 2, 1, 128]⟩
abbrev S16384x8x128 : Shape := ⟨3, ![16384, 8, 128]⟩
abbrev S16384x1x16 : Shape := ⟨3, ![16384, 1, 16]⟩
abbrev S16384x8x16 : Shape := ⟨3, ![16384, 8, 16]⟩
abbrev S16384x8x96 : Shape := ⟨3, ![16384, 8, 96]⟩

abbrev nBuf : Space → Nat
  | .hbm => 42
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S2x128, .f32⟩
  | .hbm, ⟨3, _⟩ => ⟨S16384x16, .f32⟩
  | .hbm, ⟨4, _⟩ => ⟨S16384x16, .f32⟩
  | .hbm, ⟨5, _⟩ => ⟨S16384x1024, .f32⟩
  | .hbm, ⟨6, _⟩ => ⟨S16384x2x4x128, .f32⟩
  | .hbm, ⟨7, _⟩ => ⟨S16384x2x4x128, .f32⟩
  | .hbm, ⟨8, _⟩ => ⟨S_, .f32⟩
  | .hbm, ⟨9, _⟩ => ⟨S16384x2x4, .f32⟩
  | .hbm, ⟨10, _⟩ => ⟨S16384x2x4x1, .f32⟩
  | .hbm, ⟨11, _⟩ => ⟨S_, .f32⟩
  | .hbm, ⟨12, _⟩ => ⟨S16384x2x4x1, .f32⟩
  | .hbm, ⟨13, _⟩ => ⟨S16384x2x4x1, .f32⟩
  | .hbm, ⟨14, _⟩ => ⟨S_, .f32⟩
  | .hbm, ⟨15, _⟩ => ⟨S16384x2x4x1, .f32⟩
  | .hbm, ⟨16, _⟩ => ⟨S16384x2x4x1, .f32⟩
  | .hbm, ⟨17, _⟩ => ⟨S16384x2x4x1, .f32⟩
  | .hbm, ⟨18, _⟩ => ⟨S16384x2x4x128, .f32⟩
  | .hbm, ⟨19, _⟩ => ⟨S16384x2x4x128, .f32⟩
  | .hbm, ⟨20, _⟩ => ⟨S1x2x1x128, .f32⟩
  | .hbm, ⟨21, _⟩ => ⟨S16384x2x4x128, .f32⟩
  | .hbm, ⟨22, _⟩ => ⟨S16384x2x4x128, .f32⟩
  | .hbm, ⟨23, _⟩ => ⟨S16384x8x128, .f32⟩
  | .hbm, ⟨24, _⟩ => ⟨S16384x1x16, .f32⟩
  | .hbm, ⟨25, _⟩ => ⟨S16384x1x16, .f32⟩
  | .hbm, ⟨26, _⟩ => ⟨S16384x8x16, .f32⟩
  | .hbm, ⟨27, _⟩ => ⟨S16384x8x16, .f32⟩
  | .hbm, ⟨28, _⟩ => ⟨S16384x8x16, .f32⟩
  | .hbm, ⟨29, _⟩ => ⟨S16384x8x16, .f32⟩
  | .hbm, ⟨30, _⟩ => ⟨S16384x8x16, .f32⟩
  | .hbm, ⟨31, _⟩ => ⟨S16384x8x16, .f32⟩
  | .hbm, ⟨32, _⟩ => ⟨S16384x8x16, .f32⟩
  | .hbm, ⟨33, _⟩ => ⟨S16384x8x16, .f32⟩
  | .hbm, ⟨34, _⟩ => ⟨S16384x8x16, .f32⟩
  | .hbm, ⟨35, _⟩ => ⟨S16384x8x16, .f32⟩
  | .hbm, ⟨36, _⟩ => ⟨S16384x8x16, .f32⟩
  | .hbm, ⟨37, _⟩ => ⟨S16384x8x16, .f32⟩
  | .hbm, ⟨38, _⟩ => ⟨S16384x8x96, .f32⟩
  | .hbm, ⟨39, _⟩ => ⟨S16384x8x128, .f32⟩
  | .hbm, ⟨40, _⟩ => ⟨S16384x1024, .f32⟩
  | .hbm, ⟨41, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel14.lean ====
abbrev S16384x4096 : Shape := ⟨2, ![16384, 4096]⟩
abbrev S4096x512 : Shape := ⟨2, ![4096, 512]⟩
abbrev S16384x16 : Shape := ⟨2, ![16384, 16]⟩
abbrev S_ : Shape := ⟨0, ![]⟩
abbrev S16384x96 : Shape := ⟨2, ![16384, 96]⟩
abbrev S16384x128 : Shape := ⟨2, ![16384, 128]⟩
abbrev S16384x112 : Shape := ⟨2, ![16384, 112]⟩
abbrev S16384x512 : Shape := ⟨2, ![16384, 512]⟩
abbrev S1024x4096 : Shape := ⟨2, ![1024, 4096]⟩
abbrev S1024x128 : Shape := ⟨2, ![1024, 128]⟩
abbrev S1024x512 : Shape := ⟨2, ![1024, 512]⟩

abbrev nBuf : Space → Nat
  | .hbm => 17
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S4096x512, .bf16⟩
  | .hbm, ⟨2, _⟩ => ⟨S16384x16, .f32⟩
  | .hbm, ⟨3, _⟩ => ⟨S16384x16, .f32⟩
  | .hbm, ⟨4, _⟩ => ⟨S_, .f32⟩
  | .hbm, ⟨5, _⟩ => ⟨S16384x96, .f32⟩
  | .hbm, ⟨6, _⟩ => ⟨S16384x128, .f32⟩
  | .hbm, ⟨7, _⟩ => ⟨S16384x16, .f32⟩
  | .hbm, ⟨8, _⟩ => ⟨S_, .f32⟩
  | .hbm, ⟨9, _⟩ => ⟨S16384x112, .f32⟩
  | .hbm, ⟨10, _⟩ => ⟨S16384x128, .f32⟩
  | .hbm, ⟨11, _⟩ => ⟨S_, .f32⟩
  | .hbm, ⟨12, _⟩ => ⟨S16384x16, .f32⟩
  | .hbm, ⟨13, _⟩ => ⟨S_, .f32⟩
  | .hbm, ⟨14, _⟩ => ⟨S16384x96, .f32⟩
  | .hbm, ⟨15, _⟩ => ⟨S16384x128, .f32⟩
  | .hbm, ⟨16, _⟩ => ⟨S16384x512, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S16384x4096 : Shape := ⟨2, ![16384, 4096]⟩
abbrev S4096x512 : Shape := ⟨2, ![4096, 512]⟩
abbrev S16384x16 : Shape := ⟨2, ![16384, 16]⟩
abbrev S16384x512 : Shape := ⟨2, ![16384, 512]⟩
abbrev S16384x4x128 : Shape := ⟨3, ![16384, 4, 128]⟩
abbrev S16384x1x16 : Shape := ⟨3, ![16384, 1, 16]⟩
abbrev S16384x4x16 : Shape := ⟨3, ![16384, 4, 16]⟩
abbrev S16384x4x96 : Shape := ⟨3, ![16384, 4, 96]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x512, .bf16⟩
  | .hbm, ⟨2, _⟩ => ⟨S16384x16, .f32⟩
  | .hbm, ⟨3, _⟩ => ⟨S16384x16, .f32⟩
  | .hbm, ⟨4, _⟩ => ⟨S16384x512, .f32⟩
  | .hbm, ⟨5, _⟩ => ⟨S16384x4x128, .f32⟩
  | .hbm, ⟨6, _⟩ => ⟨S16384x1x16, .f32⟩
  | .hbm, ⟨7, _⟩ => ⟨S16384x1x16, .f32⟩
  | .hbm, ⟨8, _⟩ => ⟨S16384x4x16, .f32⟩
  | .hbm, ⟨9, _⟩ => ⟨S16384x4x16, .f32⟩
  | .hbm, ⟨10, _⟩ => ⟨S16384x4x16, .f32⟩
  | .hbm, ⟨11, _⟩ => ⟨S16384x4x16, .f32⟩
  | .hbm, ⟨12, _⟩ => ⟨S16384x4x16, .f32⟩
  | .hbm, ⟨13, _⟩ => ⟨S16384x4x16, .f32⟩
  | .hbm, ⟨14, _⟩ => ⟨S16384x4x16, .f32⟩
  | .hbm, ⟨15, _⟩ => ⟨S16384x4x16, .f32⟩
  | .hbm, ⟨16, _⟩ => ⟨S16384x4x16, .f32⟩
  | .hbm, ⟨17, _⟩ => ⟨S16384x4x16, .f32⟩
  | .hbm, ⟨18, _⟩ => ⟨S16384x4x16, .f32⟩
  | .hbm, ⟨19, _⟩ => ⟨S16384x4x16, .f32⟩
  | .hbm, ⟨20, _⟩ => ⟨S16384x4x96, .f32⟩
  | .hbm, ⟨21, _⟩ => ⟨S16384x4x128, .f32⟩
  | .hbm, ⟨22, _⟩ => ⟨S16384x512, .f32⟩
  | .hbm, ⟨23, _⟩ => ⟨S16384x512, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel15.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S16384x4096 : Shape := ⟨2, ![16384, 4096]⟩
abbrev S4096x128 : Shape := ⟨2, ![4096, 128]⟩
abbrev S1x128 : Shape := ⟨2, ![1, 128]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x128, .bf16⟩
  | .hbm, ⟨2, _⟩ => ⟨S1x128, .f32⟩
  | .hbm, ⟨3, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S16384x4096 : Shape := ⟨2, ![16384, 4096]⟩
abbrev S4096x128 : Shape := ⟨2, ![4096, 128]⟩
abbrev S1x128 : Shape := ⟨2, ![1, 128]⟩
abbrev S16384x128 : Shape := ⟨2, ![16384, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x128, .bf16⟩
  | .hbm, ⟨2, _⟩ => ⟨S1x128, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S_, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .i1⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== Kernel17.lean ====
abbrev S16384x4096 : Shape := ⟨2, ![16384, 4096]⟩
abbrev S4096x128 : Shape := ⟨2, ![4096, 128]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x128, .bf16⟩
  | .hbm, ⟨2, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x4096 : Shape := ⟨2, ![16384, 4096]⟩
abbrev S4096x128 : Shape := ⟨2, ![4096, 128]⟩
abbrev S16384x128 : Shape := ⟨2, ![16384, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x128, .bf16⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S_, .f32⟩
  | .hbm, ⟨6, _⟩ => ⟨S16384x128, .f32⟩
  | .hbm, ⟨7, _⟩ => ⟨S16384x128, .f32⟩
  | .hbm, ⟨8, _⟩ => ⟨S_, .f32⟩
  | .hbm, ⟨9, _⟩ => ⟨S16384x128, .f32⟩
  | .hbm, ⟨10, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel18.lean ====
abbrev S16384x6144 : Shape := ⟨2, ![16384, 6144]⟩
abbrev S3x2048 : Shape := ⟨2, ![3, 2048]⟩
abbrev S_ : Shape := ⟨0, ![]⟩
abbrev S8x2048 : Shape := ⟨2, ![8, 2048]⟩
abbrev S1 : Shape := ⟨1, ![1]⟩
abbrev S16384x2048 : Shape := ⟨2, ![16384, 2048]⟩
abbrev S512x512 : Shape := ⟨2, ![512, 512]⟩
abbrev S8x512 : Shape := ⟨2, ![8, 512]⟩
abbrev S520x512 : Shape := ⟨2, ![520, 512]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x6144, .f32⟩
  | .hbm, ⟨1, _⟩ => ⟨S3x2048, .f32⟩
  | .hbm, ⟨2, _⟩ => ⟨S_, .f32⟩
  | .hbm, ⟨3, _⟩ => ⟨S8x2048, .f32⟩
  | .hbm, ⟨4, _⟩ => ⟨S_, .i32⟩
  | .hbm, ⟨5, _⟩ => ⟨S1, .i32⟩
  | .hbm, ⟨6, _⟩ => ⟨S8x2048, .f32⟩
  | .hbm, ⟨7, _⟩ => ⟨S16384x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .bf16⟩
  | .local _ .vmem, ⟨13, _⟩ => ⟨S512x512, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S16384x6144 : Shape := ⟨2, ![16384, 6144]⟩
abbrev S3x2048 : Shape := ⟨2, ![3, 2048]⟩
abbrev S16384x2048 : Shape := ⟨2, ![16384, 2048]⟩
abbrev S_ : Shape := ⟨0, ![]⟩
abbrev S2x2048 : Shape := ⟨2, ![2, 2048]⟩
abbrev S16386x2048 : Shape := ⟨2, ![16386, 2048]⟩
abbrev S1x2048 : Shape := ⟨2, ![1, 2048]⟩
abbrev S2048 : Shape := ⟨1, ![2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S3x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S2x2048, .f32⟩
  | .hbm, ⟨7, _⟩ => ⟨S16384x2048, .f32⟩
  | .hbm, ⟨8, _⟩ => ⟨S16386x2048, .f32⟩
  | .hbm, ⟨9, _⟩ => ⟨S1x2048, .f32⟩
  | .hbm, ⟨10, _⟩ => ⟨S2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Kernel19.lean ====
abbrev S16384 : Shape := ⟨1, ![16384]⟩
abbrev S16 : Shape := ⟨1, ![16]⟩
abbrev S_ : Shape := ⟨0, ![]⟩
abbrev S128 : Shape := ⟨1, ![128]⟩
abbrev S32 : Shape := ⟨1, ![32]⟩
abbrev S1 : Shape := ⟨1, ![1]⟩
abbrev S16384x1 : Shape := ⟨2, ![16384, 1]⟩
abbrev S16384x128 : Shape := ⟨2, ![16384, 128]⟩
abbrev S1x128 : Shape := ⟨2, ![1, 128]⟩
abbrev S1024x128 : Shape := ⟨2, ![1024, 128]⟩

abbrev nBuf : Space → Nat
  | .hbm => 22
  | .vmem => 9
  | .smem => 0
  | _ => 0

abbrev bufTy : (tb : Table) → Fin (tcTables nBuf tb) → BufTy
  | .hbm, ⟨0, _⟩ => ⟨S16384, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S128, .f32⟩
  | .hbm, ⟨11, _⟩ => ⟨S32, .f32⟩
  | .hbm, ⟨12, _⟩ => ⟨S_, .i32⟩
  | .hbm, ⟨13, _⟩ => ⟨S1, .i32⟩
  | .hbm, ⟨14, _⟩ => ⟨S128, .f32⟩
  | .hbm, ⟨15, _⟩ => ⟨S16384, .f32⟩
  | .hbm, ⟨16, _⟩ => ⟨S16384x1, .f32⟩
  | .hbm, ⟨17, _⟩ => ⟨S16384x128, .f32⟩
  | .hbm, ⟨18, _⟩ => ⟨S1x128, .f32⟩
  | .hbm, ⟨19, _⟩ => ⟨S16384x128, .f32⟩
  | .hbm, ⟨20, _⟩ => ⟨S16384x128, .f32⟩
  | .hbm, ⟨21, _⟩ => ⟨S16384x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S16384x112 : Shape := ⟨2, ![16384, 112]⟩

abbrev nBuf : Space → Nat
  | .hbm => 29
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16384, .f32⟩
  | .hbm, ⟨10, _⟩ => ⟨S16384x1, .f32⟩
  | .hbm, ⟨11, _⟩ => ⟨S1x16, .f32⟩
  | .hbm, ⟨12, _⟩ => ⟨S16384x16, .f32⟩
  | .hbm, ⟨13, _⟩ => ⟨S16384x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S_, .f32⟩
  | .hbm, ⟨18, _⟩ => ⟨S16384x96, .f32⟩
  | .hbm, ⟨19, _⟩ => ⟨S16384x128, .f32⟩
  | .hbm, ⟨20, _⟩ => ⟨S16384x16, .f32⟩
  | .hbm, ⟨21, _⟩ => ⟨S_, .f32⟩
  | .hbm, ⟨22, _⟩ => ⟨S16384x112, .f32⟩
  | .hbm, ⟨23, _⟩ => ⟨S16384x128, .f32⟩
  | .hbm, ⟨24, _⟩ => ⟨S_, .f32⟩
  | .hbm, ⟨25, _⟩ => ⟨S16384x16, .f32⟩
  | .hbm, ⟨26, _⟩ => ⟨S_, .f32⟩
  | .hbm, ⟨27, _⟩ => ⟨S16384x96, .f32⟩
  | .hbm, ⟨28, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Softmax.lean ====
/-
  The softmax of one query row, over the reals and the extended reals.

  `soft x w n` is the mean of `w` over the first `n` keys weighted by `2 ^ x`. `After x w n m a` says what a running
  (tile by tile) evaluation holds after the first `n` keys: a running maximum `m` and a sum `a` scaled by `2 ^ (-m)`.
  `After.step` is one tile of at most 512 keys, `After.quotient` the last division, and `masked_softmax` the same mean
  computed by the usual softmax over all keys under a causal mask.
-/
module

public import Idealize.ShloMosaic.PureOps.Ideal

@[expose] public section

noncomputable section

namespace Cert.Fox

open Idealize.ShloMosaic Finset

/-- The mean of `w` over the keys before `n`, key `s` weighing `2 ^ x s`. -/
def soft (x : ℕ → ℝ) (w : ℕ → EReal) (n : ℕ) : EReal :=
  ∑ s ∈ range n, (((2 : ℝ) ^ x s / ∑ l ∈ range n, (2 : ℝ) ^ x l : ℝ) : EReal) * w s

/-- What a running evaluation holds after the keys before `n`: nothing yet, or a real `μ` and the sum scaled by it. -/
def After (x : ℕ → ℝ) (w : ℕ → EReal) (n : ℕ) (m a : EReal) : Prop :=
  (n = 0 ∧ m = ⊥ ∧ a = 0) ∨
    ∃ μ : ℝ, m = (μ : EReal) ∧ a = ∑ s ∈ range n, (((2 : ℝ) ^ (x s - μ) : ℝ) : EReal) * w s

theorem exp2_coe (r : ℝ) : Ideal.exp2 (r : EReal) = (((2 : ℝ) ^ r : ℝ) : EReal) := rfl

theorem exp2_bot : Ideal.exp2 ⊥ = 0 := rfl

theorem exp_coe (r : ℝ) : Ideal.exp (r : EReal) = ((Real.exp r : ℝ) : EReal) := rfl

theorem exp_bot : Ideal.exp ⊥ = 0 := rfl

/-- A finite sum of reals read as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [sum_insert ha, sum_insert ha, EReal.coe_add, ih]

/-- A real factor that is not negative, taken into a sum. -/
theorem coe_mul_sum {ι : Type} (t : Finset ι) (r : ℝ) (hr : 0 ≤ r) (f : ι → EReal) :
    (r : EReal) * ∑ i ∈ t, f i = ∑ i ∈ t, (r : EReal) * f i := by
  classical
  induction t using Finset.induction_on with
  | empty => simp
  | insert a t ha ih => rw [sum_insert ha, sum_insert ha, EReal.left_distrib_of_nonneg_of_ne_top (by exact_mod_cast hr) (EReal.coe_ne_top r), ih]

/-- The sum over a tile of `N` keys of which the first `len` count. -/
theorem sum_tile {A : Type} [AddCommMonoid A] (N len : ℕ) (h : len ≤ N) (f : ℕ → A) :
    ∑ k : Fin N, (if k.val < len then f k.val else 0) = ∑ k ∈ range len, f k := by
  rw [Fin.sum_univ_eq_sum_range (fun k => if k < len then f k else 0) N, ← sum_filter]
  congr 1
  ext k
  simp only [mem_filter, mem_range]
  omega

/-- The contribution of one tile: a key past `len` has logit `⊥` and adds nothing. -/
theorem tile_sum (x : ℕ → ℝ) (w : ℕ → EReal) (n N len : ℕ) (h : len ≤ N) (μ : ℝ) (s u : Fin N → EReal)
    (hs : ∀ k, s k = if k.val < len then (x (n + k.val) : EReal) else ⊥)
    (hu : ∀ k, k.val < len → u k = w (n + k.val)) :
    ∑ k, Ideal.exp2 (s k - (μ : EReal)) * u k
      = ∑ k ∈ range len, (((2 : ℝ) ^ (x (n + k) - μ) : ℝ) : EReal) * w (n + k) := by
  rw [← sum_tile N len h (fun k => (((2 : ℝ) ^ (x (n + k) - μ) : ℝ) : EReal) * w (n + k))]
  refine sum_congr rfl fun k _ => ?_
  rw [hs k]
  by_cases hk : k.val < len
  · rw [if_pos hk, if_pos hk, hu k hk, ← EReal.coe_sub, exp2_coe]
  · rw [if_neg hk, if_neg hk, EReal.bot_sub, exp2_bot, zero_mul]

/-- One tile of keys moves `After` on by the keys of the tile that count. -/
theorem After.step {x : ℕ → ℝ} {w : ℕ → EReal} {n : ℕ} {m a : EReal} (h : After x w n m a) (N len : ℕ) (hlen : len ≤ N)
    (μ : ℝ) (s u : Fin N → EReal) (hs : ∀ k, s k = if k.val < len then (x (n + k.val) : EReal) else ⊥)
    (hu : ∀ k, k.val < len → u k = w (n + k.val)) :
    After x w (n + len) (μ : EReal)
      (Ideal.exp2 (m - (μ : EReal)) * a + ∑ k, Ideal.exp2 (s k - (μ : EReal)) * u k) := by
  refine Or.inr ⟨μ, rfl, ?_⟩
  rw [tile_sum x w n N len hlen μ s u hs hu, sum_range_add]
  congr 1
  rcases h with ⟨rfl, rfl, rfl⟩ | ⟨ν, rfl, rfl⟩
  · simp
  · rw [← EReal.coe_sub, exp2_coe, coe_mul_sum _ _ (Real.rpow_nonneg two_pos.le _)]
    refine sum_congr rfl fun k _ => ?_
    rw [← mul_assoc, ← EReal.coe_mul, ← Real.rpow_add two_pos]
    congr 3
    ring

/-- The running maximum after a tile with a key that counts is a real number. -/
theorem max_real {N : ℕ} (m : EReal) (hm : m = ⊥ ∨ ∃ ν : ℝ, m = (ν : EReal)) (s : Fin N → EReal)
    (hs : ∀ k, s k = ⊥ ∨ ∃ r : ℝ, s k = (r : EReal)) (k₀ : Fin N) (r₀ : ℝ) (h₀ : s k₀ = (r₀ : EReal)) (M : EReal)
    (hM : ∀ k, s k ≤ M) (hmax : M = m ∨ M = ⊥ ∨ ∃ k, M = s k) : ∃ μ : ℝ, M = (μ : EReal) := by
  have hne : M ≠ ⊥ := by
    rintro rfl
    have := hM k₀
    rw [h₀] at this
    exact absurd this (not_le.mpr (EReal.bot_lt_coe r₀))
  rcases hmax with rfl | rfl | ⟨k, rfl⟩
  · rcases hm with rfl | h
    · exact absurd rfl hne
    · exact h
  · exact absurd rfl hne
  · rcases hs k with h | h
    · exact absurd h hne
    · exact h

theorem two_rpow_sub (x : ℕ → ℝ) (n : ℕ) (μ : ℝ) :
    ∑ s ∈ range n, (2 : ℝ) ^ (x s - μ) = (2 : ℝ) ^ (-μ) * ∑ s ∈ range n, (2 : ℝ) ^ x s := by
  rw [mul_sum]
  refine sum_congr rfl fun s _ => ?_
  rw [sub_eq_add_neg, Real.rpow_add two_pos]
  ring

theorem weight_pos (x : ℕ → ℝ) (n : ℕ) (hn : 0 < n) : 0 < ∑ s ∈ range n, (2 : ℝ) ^ x s :=
  sum_pos (fun _ _ => Real.rpow_pos_of_pos two_pos _) ⟨0, mem_range.mpr hn⟩

/-- A quotient of reals, the divisor not zero. -/
theorem div_coe (a b : ℝ) (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

/-- The last division: the scaled sum times the reciprocal of the scaled weight is the mean. -/
theorem After.quotient {x : ℕ → ℝ} {w : ℕ → EReal} {n : ℕ} (hn : 0 < n) {m a z : EReal} (ha : After x w n m a)
    (hz : After x (fun _ => 1) n m z) : a * Ideal.div 1 z = soft x w n := by
  rcases ha with ⟨h, _⟩ | ⟨μ, rfl, rfl⟩
  · omega
  rcases hz with ⟨h, _⟩ | ⟨ν, hν, rfl⟩
  · omega
  obtain rfl : μ = ν := EReal.coe_injective hν
  have hp := weight_pos x n hn
  have h2 : (0 : ℝ) < 2 ^ (-μ) := Real.rpow_pos_of_pos two_pos _
  simp only [mul_one]
  rw [← coe_sum, two_rpow_sub x n μ, ← EReal.coe_one, div_coe _ _ (mul_pos h2 hp).ne', mul_comm,
    coe_mul_sum _ _ (by positivity), soft]
  refine sum_congr rfl fun s _ => ?_
  rw [← mul_assoc, ← EReal.coe_mul]
  congr 2
  rw [sub_eq_add_neg, Real.rpow_add two_pos]
  field_simp

/-- The usual softmax over `N` keys under a causal mask, the logits in natural units: the mean over the keys up to `t`. -/
theorem masked_softmax (x : ℕ → ℝ) (w : ℕ → EReal) (N t : ℕ) (ht : t < N) (M : ℝ) (y u : Fin N → EReal)
    (hy : ∀ k, y k = if k.val ≤ t then ((x k.val * Real.log 2 : ℝ) : EReal) else ⊥)
    (hu : ∀ k, u k = w k.val) :
    ∑ k, Ideal.div (Ideal.exp (y k - (M : EReal))) (∑ l, Ideal.exp (y l - (M : EReal))) * u k = soft x w (t + 1) := by
  have he : ∀ k, Ideal.exp (y k - (M : EReal))
      = ((if k.val < t + 1 then (2 : ℝ) ^ x k.val * Real.exp (-M) else 0 : ℝ) : EReal) := by
    intro k
    rw [hy k]
    by_cases hk : k.val ≤ t
    · rw [if_pos hk, if_pos (by omega), ← EReal.coe_sub, exp_coe, sub_eq_add_neg, Real.exp_add,
        Real.rpow_def_of_pos two_pos, mul_comm (Real.log 2)]
    · rw [if_neg hk, if_neg (by omega), EReal.bot_sub, exp_bot, EReal.coe_zero]
  have hp := weight_pos x (t + 1) (by omega)
  have hM := Real.exp_pos (-M)
  have hE : ∑ l, Ideal.exp (y l - (M : EReal))
      = (((∑ s ∈ range (t + 1), (2 : ℝ) ^ x s) * Real.exp (-M) : ℝ) : EReal) := by
    rw [sum_congr rfl fun k _ => he k, ← coe_sum,
      sum_tile N (t + 1) (by omega) (fun s => (2 : ℝ) ^ x s * Real.exp (-M)), ← sum_mul]
  rw [hE]
  rw [soft, ← sum_tile N (t + 1) (by omega) (fun s =>
    (((2 : ℝ) ^ x s / ∑ l ∈ range (t + 1), (2 : ℝ) ^ x l : ℝ) : EReal) * w s)]
  refine sum_congr rfl fun k _ => ?_
  rw [he k, div_coe _ _ (mul_pos hp hM).ne', hu k]
  by_cases h : k.val < t + 1
  · rw [if_pos h, if_pos h, mul_div_mul_right _ _ hM.ne']
  · rw [if_neg h, if_neg h, zero_div, EReal.coe_zero, zero_mul]

end Cert.Fox

end
-- ==== Proof.FoxTile.lean ====
/-
  One tile of 512 keys of the forgetting attention, at every row of the block of queries.

  `Inv` says what the two scratch buffers hold once a row has met its first keys: in every lane of the first the row's
  running maximum, and in the second the scaled sums of the values (lanes 0 to 127) and of ones (lanes 128 to 255).
  `Inv.tile` is a full tile, `Inv.diag` the last tile, of which row `r` meets the first `r + 1` keys.
-/
module

public import proofs.«01_k».proof.Proof.Gen.KernelIdeal.Value
public import proofs.«01_k».proof.Proof.Softmax
public import Idealize.ShloMosaic.Lib.Pipeline.ValueKit
public import Idealize.ShloMosaic.Lib.Claim

@[expose] public section

set_option maxRecDepth 16384

noncomputable section

namespace Cert.KernelIdeal.Fox

open Cert.KernelIdeal Cert.KernelIdeal.Gen Cert.Fox Idealize.ShloMosaic Idealize.ShloMosaic.TcCoe Idealize.SL.Sem

/-- The word of minus infinity. -/
theorem negInf : Ideal.ofBits FTy.f32 4286578688#32 = ⊥ := by
  simp [Ideal.ofBits, Ideal.ieee]

/-- The columns that are summed: the values, and ones beside them. -/
def lanes (v : Fin 128 → ℕ → EReal) (d : Fin 256) (s : ℕ) : EReal := if h : d.val < 128 then v ⟨d.val, h⟩ s else 1

/-- The scratch buffers once row `r` has met its first `n r` keys. -/
def Inv (x : Fin 512 → ℕ → ℝ) (v : Fin 128 → ℕ → EReal) (n : Fin 512 → ℕ) (M : Vec Ideal S512x128 .f32)
    (A : Vec Ideal S512x256 .f32) : Prop :=
  ∀ r : Fin 512, ∃ μ : EReal, (∀ d : Fin 128, M (ix2 r d) = μ) ∧
    ∀ d : Fin 256, After (x r) (lanes v d) (n r) μ (A (ix2 r d))

variable {x : Fin 512 → ℕ → ℝ} {v : Fin 128 → ℕ → EReal}

theorem After.cases {x : ℕ → ℝ} {w : ℕ → EReal} {n : ℕ} {m a : EReal} (h : After x w n m a) : m = ⊥ ∨ ∃ ν : ℝ, m = (ν : EReal) := by
  rcases h with ⟨_, h, _⟩ | ⟨ν, h, _⟩
  · exact .inl h
  · exact .inr ⟨ν, h⟩

/-- One tile, of which row `r` meets the first `len r` keys. -/
theorem Inv.step {n : ℕ} {M M' : Vec Ideal S512x128 .f32} {A A' : Vec Ideal S512x256 .f32}
    (h : Inv x v (fun _ => n) M A) (len : Fin 512 → ℕ) (h0 : ∀ r, 0 < len r) (h1 : ∀ r, len r ≤ 512)
    (s : Fin 512 → Fin 512 → EReal) (hs : ∀ r k, s r k = if k.val < len r then (x r (n + k.val) : EReal) else ⊥)
    (hM : ∀ r d, M' (ix2 r d) = max (M (ix2 r d)) (Finset.univ.fold max ⊥ (s r)))
    (hA : ∀ r d (μ μ' : EReal), (∀ d, M (ix2 r d) = μ) → (∀ d, M' (ix2 r d) = μ') →
      A' (ix2 r d) = Ideal.exp2 (μ - μ') * A (ix2 r d)
        + ∑ k : Fin 512, Ideal.exp2 (s r k - μ') * lanes v d (n + k.val)) :
    Inv x v (fun r => n + len r) M' A' := by
  intro r
  obtain ⟨μ, hμ, ha⟩ := h r
  have hM' : ∀ d, M' (ix2 r d) = max μ (Finset.univ.fold max ⊥ (s r)) := fun d => by rw [hM, hμ]
  have hfold : Finset.univ.fold max ⊥ (s r) = Finset.univ.sup (s r) := rfl
  obtain ⟨μ', hμ'⟩ : ∃ μ' : ℝ, max μ (Finset.univ.fold max ⊥ (s r)) = (μ' : EReal) := by
    rw [hfold]
    refine max_real μ (After.cases (ha 0)) (s r) (fun k => ?_) ⟨0, by norm_num⟩ (x r (n + 0)) ?_ _ (fun k => ?_) ?_
    · rw [hs]
      split
      · exact .inr ⟨_, rfl⟩
      · exact .inl rfl
    · rw [hs, if_pos (h0 r)]
    · exact le_max_of_le_right (Finset.le_sup (Finset.mem_univ k))
    · rcases le_total μ (Finset.univ.sup (s r)) with hle | hle
      · rw [max_eq_right hle]
        obtain ⟨k, _, hk⟩ := Finset.exists_mem_eq_sup Finset.univ ⟨(0 : Fin 512), Finset.mem_univ _⟩ (s r)
        exact .inr (.inr ⟨k, hk⟩)
      · rw [max_eq_left hle]
        exact .inl rfl
  refine ⟨μ', fun d => by rw [hM', hμ'], fun d => ?_⟩
  rw [hA r d μ μ' hμ fun d => by rw [hM', hμ']]
  exact (ha d).step 512 (len r) (h1 r) μ' (s r) _ (hs r) fun k _ => rfl

/-- Before the first tile: no key met. -/
theorem Inv.init : Inv x v (fun _ => 0) (k0_pay29 (F := Ideal)) (k0_pay30 (F := Ideal)) := by
  refine fun r => ⟨⊥, fun d => ?_, fun d => .inl ⟨rfl, rfl, ?_⟩⟩
  · pointwise [k0_pay29]
    exact negInf
  · pointwise [k0_pay30]

/-- The product of a row of the queries with a key: the 128 lanes of the head, and the 128 lanes of the bias beside them. -/
def logit (q qx : Vec Ideal S512x128 .bf16) (k kx : Vec Ideal S512x128 .bf16) (r s : Fin 512) : EReal :=
  ∑ d : Fin 128, q (ix2 r d) * k (ix2 s d) + ∑ d : Fin 128, qx (ix2 r d) * kx (ix2 s d)

theorem pay1_eq (q qx k kx : Vec Ideal S512x128 .bf16) (r s : Fin 512) :
    k0_pay1 (F := Ideal) (k0_pay31 (F := Ideal) q qx) k kx (ix2 r s) = logit q qx k kx r s := by
  pointwise [k0_pay1, k0_pay31, logit]

theorem pay2_eq (q qx k kx : Vec Ideal S512x128 .bf16) (M : Vec Ideal S512x128 .f32) (r : Fin 512) (d : Fin 128) :
    k0_pay2 (F := Ideal) (k0_pay31 (F := Ideal) q qx) k kx M (ix2 r d)
      = max (M (ix2 r d)) (Finset.univ.fold max ⊥ (logit q qx k kx r)) := by
  pointwise [k0_pay2]
  rw [negInf]
  simp only [pay1_eq]

theorem pay4_eq (q qx k kx : Vec Ideal S512x128 .bf16) (M : Vec Ideal S512x128 .f32) (r : Fin 512) (d : Fin 128) :
    k0_pay4 (F := Ideal) (k0_pay31 (F := Ideal) q qx) k kx M (ix2 r d)
      = max (M (ix2 r d)) (Finset.univ.fold max ⊥ (logit q qx k kx r)) := by
  rw [← pay2_eq]
  pointwise [k0_pay4]

/-- A full tile. -/
theorem Inv.tile {n : ℕ} {M : Vec Ideal S512x128 .f32} {A : Vec Ideal S512x256 .f32} (h : Inv x v (fun _ => n) M A)
    (q qx k kx vt : Vec Ideal S512x128 .bf16) (hx : ∀ r s, logit q qx k kx r s = (x r (n + s.val) : EReal))
    (hv : ∀ s d, vt (ix2 s d) = v d (n + s.val)) :
    Inv x v (fun _ => n + 512) (k0_pay4 (F := Ideal) (k0_pay31 (F := Ideal) q qx) k kx M)
      (k0_pay3 (F := Ideal) (k0_pay31 (F := Ideal) q qx) k kx vt M A) := by
  refine h.step (fun _ => 512) (fun _ => by norm_num) (fun _ => le_rfl) (logit q qx k kx) (fun r s => ?_) (fun r d => ?_)
    fun r d μ μ' hμ hμ' => ?_
  · rw [if_pos s.isLt, hx]
  · exact pay4_eq q qx k kx M r d
  · have hμ2 : ∀ d, k0_pay2 (F := Ideal) (k0_pay31 (F := Ideal) q qx) k kx M (ix2 r d) = μ' := fun d => by
      rw [pay2_eq, ← pay4_eq, hμ']
    pointwise [k0_pay3]
    simp only [hμ, hμ2, dite_eq_ite, ite_self, pay1_eq]
    refine congrArg₂ (· + ·) rfl (Finset.sum_congr rfl fun s _ => congrArg₂ (· * ·) rfl ?_)
    unfold lanes
    split
    · exact hv _ _
    · rfl

/-- The number of a lane in a row of 512. -/
abbrev laneNo : IVec S512x512 32 := iota Kind.tc S512x512 32 [1] iota_S512x512_d1_w32

/-- The logits of the last tile: a key after the query weighs nothing. -/
theorem pay49_eq (q qx k kx : Vec Ideal S512x128 .bf16) (r s : Fin 512) :
    k0_pay49 (F := Ideal) (k0_pay31 (F := Ideal) q qx) (k0_pay48 (F := Ideal) k kx) laneNo (ix2 r s)
      = if s.val < r.val + 1 then logit q qx k kx r s else ⊥ := by
  have hr := r.isLt
  have hs := s.isLt
  pointwise [k0_pay49, k0_pay48, k0_pay31, logit]
  rw [negInf]
  by_cases h : s.val ≤ r.val
  · rw [if_pos (by omega), WordCmp.select_of_eq_one ((WordCmp.cmpi_sle_ofNat_eq_one_iff (by omega) (by omega)).mpr h)]
  · rw [if_neg (by omega), WordCmp.select_of_eq_zero ((WordCmp.cmpi_sle_ofNat_eq_zero_iff (by omega) (by omega)).mpr h)]

theorem pay50_eq (q qx k kx : Vec Ideal S512x128 .bf16) (M : Vec Ideal S512x128 .f32) (r : Fin 512) (d : Fin 128) :
    k0_pay50 (F := Ideal) (k0_pay31 (F := Ideal) q qx) (k0_pay48 (F := Ideal) k kx) laneNo M (ix2 r d)
      = max (M (ix2 r d))
          (Finset.univ.fold max ⊥ fun s : Fin 512 => if s.val < r.val + 1 then logit q qx k kx r s else ⊥) := by
  pointwise [k0_pay50]
  rw [negInf]
  simp only [pay49_eq]

theorem pay52_eq (q qx k kx : Vec Ideal S512x128 .bf16) (M : Vec Ideal S512x128 .f32) (r : Fin 512) (d : Fin 128) :
    k0_pay52 (F := Ideal) (k0_pay31 (F := Ideal) q qx) (k0_pay48 (F := Ideal) k kx) laneNo M (ix2 r d)
      = max (M (ix2 r d))
          (Finset.univ.fold max ⊥ fun s : Fin 512 => if s.val < r.val + 1 then logit q qx k kx r s else ⊥) := by
  rw [← pay50_eq]
  pointwise [k0_pay52]

/-- The last tile: row `r` meets the keys up to its own. -/
theorem Inv.diag {n : ℕ} {M : Vec Ideal S512x128 .f32} {A : Vec Ideal S512x256 .f32} (h : Inv x v (fun _ => n) M A)
    (q qx k kx vt : Vec Ideal S512x128 .bf16) (hx : ∀ r s, logit q qx k kx r s = (x r (n + s.val) : EReal))
    (hv : ∀ s d, vt (ix2 s d) = v d (n + s.val)) :
    Inv x v (fun r => n + (r.val + 1))
      (k0_pay52 (F := Ideal) (k0_pay31 (F := Ideal) q qx) (k0_pay48 (F := Ideal) k kx) laneNo M)
      (k0_pay51 (F := Ideal) (k0_pay31 (F := Ideal) q qx) (k0_pay48 (F := Ideal) k kx) laneNo vt M A) := by
  refine h.step (fun r => r.val + 1) (fun _ => by omega) (fun r => r.isLt)
    (fun r s => if s.val < r.val + 1 then logit q qx k kx r s else ⊥) (fun r s => ?_) (fun r d => ?_)
    fun r d μ μ' hμ hμ' => ?_
  · rw [hx]
  · exact pay52_eq q qx k kx M r d
  · have hμ2 : ∀ d, k0_pay50 (F := Ideal) (k0_pay31 (F := Ideal) q qx) (k0_pay48 (F := Ideal) k kx) laneNo M
        (ix2 r d) = μ' := fun d => by rw [pay50_eq, ← pay52_eq, hμ']
    pointwise [k0_pay51]
    simp only [hμ, hμ2, dite_eq_ite, ite_self, pay49_eq]
    refine congrArg₂ (· + ·) rfl (Finset.sum_congr rfl fun s _ => congrArg₂ (· * ·) rfl ?_)
    unfold lanes
    split
    · exact hv _ _
    · rfl

/-- What is written out: the mean of the values under the weights of the keys met. -/
theorem Inv.out {n : Fin 512 → ℕ} (hn : ∀ r, 0 < n r) {M : Vec Ideal S512x128 .f32} {A : Vec Ideal S512x256 .f32}
    (h : Inv x v n M A) (r : Fin 512) (d : Fin 128) :
    k0_pay53 (F := Ideal) A (ix2 r d) = soft (x r) (v d) (n r) := by
  obtain ⟨μ, -, ha⟩ := h r
  have h1 := ha ⟨d.val, by omega⟩
  have h2 := ha ⟨128 + d.val, by omega⟩
  have e1 : lanes v ⟨d.val, by omega⟩ = v d := by
    funext s
    exact dif_pos d.isLt
  have e2 : lanes v ⟨128 + d.val, by omega⟩ = fun _ => 1 := by
    funext s
    exact dif_neg (by simp)
  rw [e1] at h1
  rw [e2] at h2
  rw [← h1.quotient (hn r) h2]
  pointwise [k0_pay53]

end Cert.KernelIdeal.Fox

end
-- ==== Proof.FoxTrip.lean ====
/-
  The loop of the forgetting attention over the full tiles of keys.

  The block of queries number `i` meets `i` full tiles: four at a time in a loop of `i / 4` trips, then two, then one.
  Here are where the tiles lie (`off1`, `off3_0`, `off3_1`, `off4`), one tile read from the whole columns (`Inv.read`),
  one trip of the loop (`trip_inv`) and the whole loop (`loop_inv`).
-/
module

public import proofs.«01_k».proof.Proof.FoxTile
public import Idealize.ShloMosaic.Lib.VecWindow

@[expose] public section

set_option maxRecDepth 16384

noncomputable section

namespace Cert.KernelIdeal.Fox

open Cert.KernelIdeal Cert.KernelIdeal.Gen Cert.Fox Idealize.ShloMosaic Idealize.ShloMosaic.TcCoe Idealize.SL.Sem

/-! ### Where the tiles lie -/

theorem trips1 : ∀ i : grid0.Coords, (k0_t1_loop i).trips = (i 1).val / 4 := by decide +kernel

theorem trips2 : ∀ i : grid0.Coords, (k0_t2_loop i).trips = 0 := by decide +kernel

theorem off3_0 : ∀ i : grid0.Coords, k0_off3 i 0#32 = ![2048 * ((i 1).val / 4), 0] := by decide +kernel

theorem off3_1 : ∀ i : grid0.Coords, k0_off3 i 1#32 = ![2048 * ((i 1).val / 4) + 512, 0] := by decide +kernel

theorem off4 : ∀ i : grid0.Coords, (i 1).val % 2 = 1 → k0_off4 i = ![512 * ((i 1).val - 1), 0] := by decide +kernel

theorem trip_lt (i : grid0.Coords) (k : Fin (k0_t1_loop i).trips) : k.val < 8 := by
  have h1 := k.isLt
  have h2 := trips1 i
  have h3 : (i 1).val < 32 := (i 1).isLt
  omega

theorem off1 (i : grid0.Coords) (k : Fin (k0_t1_loop i).trips) (c : Fin 4) :
    k0_off1 i k (BitVec.ofNat 32 c.val) = ![2048 * k.val + 512 * c.val, 0] := by
  have hk := trip_lt i k
  unfold k0_off1
  generalize k.val = n at hk ⊢
  clear i k
  revert c n
  decide +kernel

/-! ### The payloads of the tiles are one function -/

section Same

variable {F : FTy → Type} [FloatOps F] (q k kx vt : Vec F S512x128 .bf16) (p : FVec F S512x256 .bf16)
  (M : Vec F S512x128 .f32) (A : Vec F S512x256 .f32)

theorem pay8_eq : k0_pay8 p k kx M = k0_pay4 p k kx M := rfl
theorem pay7_eq : k0_pay7 p k kx vt M A = k0_pay3 p k kx vt M A := rfl
theorem pay12_eq : k0_pay12 p k kx M = k0_pay4 p k kx M := rfl
theorem pay11_eq : k0_pay11 p k kx vt M A = k0_pay3 p k kx vt M A := rfl
theorem pay35_eq : k0_pay35 q k kx vt M = k0_pay4 (k0_pay31 q k) kx vt M := rfl
theorem pay34_eq (v8 : Vec F S512x128 .bf16) :
    k0_pay34 v8 q k kx vt M A = k0_pay3 (k0_pay31 v8 q) k kx vt M A := rfl
theorem pay28_eq : k0_pay28 p k kx M = k0_pay4 p k kx M := rfl
theorem pay27_eq : k0_pay27 p k kx vt M A = k0_pay3 p k kx vt M A := rfl
theorem pay43_eq : k0_pay43 p k kx M = k0_pay4 p k kx M := rfl
theorem pay42_eq : k0_pay42 p k kx vt M A = k0_pay3 p k kx vt M A := rfl
theorem pay47_eq : k0_pay47 p k kx M = k0_pay4 p k kx M := rfl
theorem pay46_eq : k0_pay46 p k kx vt M A = k0_pay3 p k kx vt M A := rfl

end Same

/-! ### A tile read from the whole columns -/

variable {x : Fin 512 → ℕ → ℝ} {v : Fin 128 → ℕ → EReal}

/-- The block of queries and the whole columns of keys and values give the logits `x` and the values `v`. -/
structure Fits (x : Fin 512 → ℕ → ℝ) (v : Fin 128 → ℕ → EReal) (q qx : Vec Ideal S512x128 .bf16)
    (K KX V : Vec Ideal S16384x128 .bf16) : Prop where
  logit : ∀ (r : Fin 512) (s : Fin 16384),
    ∑ d : Fin 128, q (ix2 r d) * K (ix2 s d) + ∑ d : Fin 128, qx (ix2 r d) * KX (ix2 s d) = (x r s.val : EReal)
  value : ∀ (s : Fin 16384) (d : Fin 128), V (ix2 s d) = v d s.val

/-- The tile of a column that begins at row `n`. -/
theorem tile_read (arg : Memref sig .tc .vmem S16384x128 .bf16) (h : arg.IsWhole) (X : Vec Ideal S16384x128 .bf16)
    {off : Fin 2 → ℕ} (inb : ∀ a, off a + S512x128.size a ≤ S16384x128.size a) (n : ℕ) (hoff : off = ![n, 0])
    (hn : n + 512 ≤ 16384) (s : Fin 512) (d : Fin 128) :
    arg.view.readAt (Elt Ideal) (Rect.unit (s := S16384x128) off S512x128.size inb).toLoadRect (h.unread X) (ix2 s d)
      = X (ix2 ⟨n + s.val, by omega⟩ d) := by
  subst hoff
  rw [View.readAt_unit _ _ inb rfl inb, Memref.IsWhole.read_unread]
  exact congrArg X (by blk_ext)

variable {q qx : Vec Ideal S512x128 .bf16} {K KX V : Vec Ideal S16384x128 .bf16}

/-- One full tile, read from the whole columns at row `n`. -/
theorem Inv.read {n : ℕ} {M : Vec Ideal S512x128 .f32} {A : Vec Ideal S512x256 .f32} (h : Inv x v (fun _ => n) M A)
    (hf : Fits x v q qx K KX V) {arg4 arg5 arg6 : Memref sig .tc .vmem S16384x128 .bf16} (harg4 : arg4.IsWhole)
    (harg5 : arg5.IsWhole) (harg6 : arg6.IsWhole) {off : Fin 2 → ℕ}
    (inb : ∀ a, off a + S512x128.size a ≤ S16384x128.size a) (hoff : off = ![n, 0]) (hn : n + 512 ≤ 16384) :
    Inv x v (fun _ => n + 512)
      (k0_pay4 (F := Ideal) (k0_pay31 (F := Ideal) q qx)
        (arg4.view.readAt (Elt Ideal) (Rect.unit (s := S16384x128) off S512x128.size inb).toLoadRect (harg4.unread K))
        (arg5.view.readAt (Elt Ideal) (Rect.unit (s := S16384x128) off S512x128.size inb).toLoadRect (harg5.unread KX)) M)
      (k0_pay3 (F := Ideal) (k0_pay31 (F := Ideal) q qx)
        (arg4.view.readAt (Elt Ideal) (Rect.unit (s := S16384x128) off S512x128.size inb).toLoadRect (harg4.unread K))
        (arg5.view.readAt (Elt Ideal) (Rect.unit (s := S16384x128) off S512x128.size inb).toLoadRect (harg5.unread KX))
        (arg6.view.readAt (Elt Ideal) (Rect.unit (s := S16384x128) off S512x128.size inb).toLoadRect (harg6.unread V)) M A) := by
  refine h.tile q qx _ _ _ (fun r s => ?_) fun s d => ?_
  · unfold logit
    simp only [tile_read arg4 harg4 K inb n hoff hn, tile_read arg5 harg5 KX inb n hoff hn]
    exact hf.logit r _
  · rw [tile_read arg6 harg6 V inb n hoff hn]
    exact hf.value _ d

/-! ### One trip, and the loop -/

section Loop

variable (c : Dev nD) (i : grid0.Coords)
  (arg2 : Memref sig .tc .vmem S512x128 .bf16) (harg2 : arg2.IsWhole)
  (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S16384x128 .bf16) (harg6 : arg6.IsWhole)
  (arg7 : Memref sig .tc .vmem S512x128 .bf16) (harg7 : arg7.IsWhole)
  (arg8 : Memref sig .tc .vmem S512x128 .f32) (harg8 : arg8.IsWhole)
  (arg9 : Memref sig .tc .vmem S512x256 .f32) (harg9 : arg9.IsWhole)

/-- One trip of the loop takes four tiles. -/
theorem trip_inv (hf : Fits x v q qx K KX V) (k : Fin (k0_t1_loop i).trips)
    (f8 : BufTy.Contents (Elt Ideal) arg8.view.ty) (f9 : BufTy.Contents (Elt Ideal) arg9.view.ty)
    (h : Inv x v (fun _ => 2048 * k.val) (arg8.view.read (Elt Ideal) f8) (arg9.view.read (Elt Ideal) f9)) :
    Inv x v (fun _ => 2048 * (k.val + 1))
      (arg8.view.read (Elt Ideal) (arg8.view.writes (Elt Ideal) f8
        (tripL_k0_t1 (F := Ideal) Variants.none c none i arg2 harg2 arg3 harg3 arg4 harg4 arg5 harg5 arg6 harg6 arg7
          harg7 arg8 harg8 arg9 harg9 q qx (harg4.unread K) (harg5.unread KX) (harg6.unread V) k f8 f9).1))
      (arg9.view.read (Elt Ideal) (arg9.view.writes (Elt Ideal) f9
        (tripL_k0_t1 (F := Ideal) Variants.none c none i arg2 harg2 arg3 harg3 arg4 harg4 arg5 harg5 arg6 harg6 arg7
          harg7 arg8 harg8 arg9 harg9 q qx (harg4.unread K) (harg5.unread KX) (harg6.unread V) k f8 f9).2)) := by
  have hk := trip_lt i k
  have o0 := off1 i k 0
  have o1 := off1 i k 1
  have o2 := off1 i k 2
  have o3 := off1 i k 3
  unfold tripL_k0_t1 trip_k0_t1
  dsimp only
  refine (congrArg₂ (Inv x v fun _ => 2048 * (k.val + 1)) (View.read_writes_full arg8.view f8 _ _ _)
    (View.read_writes_full arg9.view f9 _ _ _)).mpr ?_
  unfold trip_k0_t1.sl.v234 trip_k0_t1.sl.v247 trip_k0_t1.sl.HW_arg8_3 trip_k0_t1.sl.HW_arg9_3
  rw [View.readCov_full, View.readCov_full]
  unfold trip_k0_t1.sl.v197 trip_k0_t1.sl.v210 trip_k0_t1.sl.HW_arg8_2 trip_k0_t1.sl.HW_arg9_2
  rw [View.readCov_full, View.readCov_full]
  unfold trip_k0_t1.sl.v160 trip_k0_t1.sl.v173 trip_k0_t1.sl.HW_arg8_1 trip_k0_t1.sl.HW_arg9_1
  rw [View.readCov_full, View.readCov_full, View.readAt_full, View.readAt_full]
  rw [pay35_eq, pay34_eq, pay12_eq, pay11_eq, pay8_eq, pay7_eq]
  have h1 := h.read hf harg4 harg5 harg6 (k0_off1_inb i k 0) (by simpa using o0) (by omega)
  have h2 := h1.read hf harg4 harg5 harg6 (k0_off1_inb i k 1) (by simpa using o1) (by omega)
  have h3 := h2.read hf harg4 harg5 harg6 (k0_off1_inb i k 2) (by simpa using o2) (by omega)
  have h4 := h3.read hf harg4 harg5 harg6 (k0_off1_inb i k 3) (by simpa using o3) (by omega)
  exact h4

/-- The trips before the `n`-th, from scratch buffers that have met no key. -/
theorem loop_inv (hf : Fits x v q qx K KX V) (G8 : BufTy.Contents (Elt Ideal) arg8.view.ty)
    (G9 : BufTy.Contents (Elt Ideal) arg9.view.ty)
    (h : Inv x v (fun _ => 0) (arg8.view.read (Elt Ideal) G8) (arg9.view.read (Elt Ideal) G9)) :
    ∀ n : ℕ, n ≤ (k0_t1_loop i).trips → Inv x v (fun _ => 2048 * n)
      (arg8.view.read (Elt Ideal) (arg8.view.writes (Elt Ideal) G8
        (pb_k0_t1 (F := Ideal) Variants.none c none i arg2 harg2 arg3 harg3 arg4 harg4 arg5 harg5 arg6 harg6 arg7
          harg7 arg8 harg8 arg9 harg9 q qx (harg4.unread K) (harg5.unread KX) (harg6.unread V) G8 G9 n).1))
      (arg9.view.read (Elt Ideal) (arg9.view.writes (Elt Ideal) G9
        (pb_k0_t1 (F := Ideal) Variants.none c none i arg2 harg2 arg3 harg3 arg4 harg4 arg5 harg5 arg6 harg6 arg7
          harg7 arg8 harg8 arg9 harg9 q qx (harg4.unread K) (harg5.unread KX) (harg6.unread V) G8 G9 n).2))
  | 0, _ => h
  | n + 1, hn => by
    have ih := loop_inv hf G8 G9 h n (by omega)
    have hs := pb_k0_t1_succ (F := Ideal) Variants.none c none i arg2 harg2 arg3 harg3 arg4 harg4 arg5 harg5 arg6 harg6
      arg7 harg7 arg8 harg8 arg9 harg9 q qx (harg4.unread K) (harg5.unread KX) (harg6.unread V) G8 G9 ⟨n, by omega⟩
    dsimp only at hs
    rw [hs, View.writes_append, View.writes_append]
    exact trip_inv c i arg2 harg2 arg3 harg3 arg4 harg4 arg5 harg5 arg6 harg6 arg7 harg7 arg8 harg8 arg9 harg9 hf
      ⟨n, by omega⟩ _ _ ih

/-- What the scratch buffers hold after the loop, and after a second loop that makes no trip. -/
theorem loop_out (hf : Fits x v q qx K KX V) (L8 : List (View.Piece (Elt Ideal) S512x128 .f32))
    (L9 : List (View.Piece (Elt Ideal) S512x256 .f32)) (h8 : L8 = []) (h9 : L9 = [])
    (H8 : List (View.Piece (Elt Ideal) S512x128 .f32)) (H9 : List (View.Piece (Elt Ideal) S512x256 .f32))
    (e8 : H8 = [⟨Rect.unit ![0, 0] S512x128.size inb_S512x128_S512x128_0_0, k0_pay29 (F := Ideal)⟩])
    (e9 : H9 = [⟨Rect.unit ![0, 0] S512x256.size inb_S512x256_S512x256_0_0, k0_pay30 (F := Ideal)⟩]) :
    Inv x v (fun _ => 2048 * ((i 1).val / 4))
      (arg8.view.readCov (L8 ++
        ((pb_k0_t1 (F := Ideal) Variants.none c none i arg2 harg2 arg3 harg3 arg4 harg4 arg5 harg5 arg6 harg6 arg7
          harg7 arg8 harg8 arg9 harg9 q qx (harg4.unread K) (harg5.unread KX) (harg6.unread V)
          (arg8.view.writes (Elt Ideal) arg8.view.junk H8) (arg9.view.writes (Elt Ideal) arg9.view.junk H9)
          (Scf.trips (k0_t1_loop i).lb (k0_t1_loop i).ub (k0_t1_loop i).st)).1 ++ H8))
        (Rect.unit ![0, 0] S512x128.size inb_S512x128_S512x128_0_0).toLoadRect)
      (arg9.view.readCov (L9 ++
        ((pb_k0_t1 (F := Ideal) Variants.none c none i arg2 harg2 arg3 harg3 arg4 harg4 arg5 harg5 arg6 harg6 arg7
          harg7 arg8 harg8 arg9 harg9 q qx (harg4.unread K) (harg5.unread KX) (harg6.unread V)
          (arg8.view.writes (Elt Ideal) arg8.view.junk H8) (arg9.view.writes (Elt Ideal) arg9.view.junk H9)
          (Scf.trips (k0_t1_loop i).lb (k0_t1_loop i).ub (k0_t1_loop i).st)).2 ++ H9))
        (Rect.unit ![0, 0] S512x256.size inb_S512x256_S512x256_0_0).toLoadRect) := by
  subst h8 h9
  rw [List.nil_append, List.nil_append]
  unfold View.readCov
  rw [View.readAt_full, View.readAt_full, View.writes_append, View.writes_append, ← trips1 i]
  refine loop_inv c i arg2 harg2 arg3 harg3 arg4 harg4 arg5 harg5 arg6 harg6 arg7 harg7 arg8 harg8 arg9 harg9 hf _ _ ?_
    _ le_rfl
  subst e8 e9
  rw [View.read_writes_full, View.read_writes_full]
  exact Inv.init

end Loop

end Cert.KernelIdeal.Fox

end
-- ==== Proof.FoxRun.lean ====
/-
  What one block of queries leaves in its block of the result: in each of the four cases of the two conditionals that
  take the tiles left over by the loop, the mean of the values of the keys up to the query's own.
-/
module

public import proofs.«01_k».proof.Proof.FoxTrip

@[expose] public section

set_option maxRecDepth 16384

noncomputable section

namespace Cert.KernelIdeal.Fox

open Cert.KernelIdeal Cert.KernelIdeal.Gen Cert.Fox Idealize.ShloMosaic Idealize.ShloMosaic.TcCoe Idealize.SL.Sem

variable {x : Fin 512 → ℕ → ℝ} {v : Fin 128 → ℕ → EReal}

variable (c : Dev nD) (i : grid0.Coords)
  (arg2 : Memref sig .tc .vmem S512x128 .bf16) (harg2 : arg2.IsWhole)
  (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S16384x128 .bf16) (harg6 : arg6.IsWhole)
  (arg7 : Memref sig .tc .vmem S512x128 .bf16) (harg7 : arg7.IsWhole)
  (arg8 : Memref sig .tc .vmem S512x128 .f32) (harg8 : arg8.IsWhole)
  (arg9 : Memref sig .tc .vmem S512x256 .f32) (harg9 : arg9.IsWhole)
  (x0 x1 : Vec Ideal S512x128 .bf16) (x2 x3 x4 : Vec Ideal S16384x128 .bf16)

/-- The last tile and the division, after all the full tiles. -/
theorem finish (hf : Fits x v x0 x1 x2 x3 x4) {n : ℕ} (hn : n = 512 * (i 1).val) {M : Vec Ideal S512x128 .f32}
    {A : Vec Ideal S512x256 .f32} (h : Inv x v (fun _ => n) M A)
    (inb : ∀ a, k0_off5 i a + S512x128.size a ≤ S16384x128.size a) (r : Fin 512) (d : Fin 128) :
    k0_pay53 (F := Ideal) (k0_pay51 (F := Ideal) (k0_pay31 (F := Ideal) x0 x1)
      (k0_pay48 (F := Ideal)
        (arg4.view.readAt (Elt Ideal) (Rect.unit (s := S16384x128) (k0_off5 i) S512x128.size inb).toLoadRect
          (harg4.unread x2))
        (arg5.view.readAt (Elt Ideal) (Rect.unit (s := S16384x128) (k0_off5 i) S512x128.size inb).toLoadRect
          (harg5.unread x3))) laneNo
      (arg6.view.readAt (Elt Ideal) (Rect.unit (s := S16384x128) (k0_off5 i) S512x128.size inb).toLoadRect
        (harg6.unread x4)) M A) (ix2 r d)
      = soft (x r) (v d) (512 * (i 1).val + (r.val + 1)) := by
  subst hn
  have hi : (i 1).val < 32 := (i 1).isLt
  refine Inv.out (n := fun r => 512 * (i 1).val + (r.val + 1)) (fun _ => by omega) (h.diag x0 x1 _ _ _ (fun r s => ?_) fun s d => ?_) r d
  · unfold logit
    simp only [tile_read arg4 harg4 x2 inb _ (k0_off5_eq i) (by omega),
      tile_read arg5 harg5 x3 inb _ (k0_off5_eq i) (by omega)]
    exact hf.logit r _
  · rw [tile_read arg6 harg6 x4 inb _ (k0_off5_eq i) (by omega)]
    exact hf.value _ d

/-- The second loop makes no trip. -/
theorem none2 (a : BitVec 32) (p : FVec Ideal S512x256 .bf16) (b : BitVec 32) (X4 : BufTy.Contents (Elt Ideal) arg4.view.ty)
    (X5 : BufTy.Contents (Elt Ideal) arg5.view.ty) (X6 : BufTy.Contents (Elt Ideal) arg6.view.ty)
    (G8 : BufTy.Contents (Elt Ideal) arg8.view.ty) (G9 : BufTy.Contents (Elt Ideal) arg9.view.ty) :
    pb_k0_t2 (F := Ideal) Variants.none c none i arg2 harg2 arg3 harg3 arg4 harg4 arg5 harg5 arg6 harg6 arg7 harg7 arg8
      harg8 arg9 harg9 a p b X4 X5 X6 G8 G9 (Scf.trips (k0_t2_loop i).lb (k0_t2_loop i).ub (k0_t2_loop i).st) = ([], []) := by
  have h : Scf.trips (k0_t2_loop i).lb (k0_t2_loop i).ub (k0_t2_loop i).st = 0 := trips2 i
  rw [h]
  rfl

/-- No tile left over. -/
theorem caseA (hf : Fits x v x0 x1 x2 x3 x4) (hi : (i 1).val % 4 = 0) (r : Fin 512) (d : Fin 128) :
    kernelRun0_A.sl.r_2 (F := Ideal) c i arg2 harg2 arg3 harg3 arg4 harg4 arg5 harg5 arg6 harg6 arg7 harg7 arg8 harg8
      arg9 harg9 x0 x1 x2 x3 x4 (ix2 r d) = soft (x r) (v d) (512 * (i 1).val + (r.val + 1)) := by
  have hl : Inv x v (fun _ => 2048 * ((i 1).val / 4))
      (kernelRun0_A.sl.v78 (F := Ideal) c i arg2 harg2 arg3 harg3 arg4 harg4 arg5 harg5 arg6 harg6 arg7 harg7 arg8
        harg8 arg9 harg9 x0 x1 x2 x3 x4)
      (kernelRun0_A.sl.v91 (F := Ideal) c i arg2 harg2 arg3 harg3 arg4 harg4 arg5 harg5 arg6 harg6 arg7 harg7 arg8
        harg8 arg9 harg9 x0 x1 x2 x3 x4) := by
    unfold kernelRun0_A.sl.v78 kernelRun0_A.sl.v91
    simp only [View.readAt_full arg2.view, View.readAt_full arg3.view, Memref.IsWhole.read_unread]
    exact loop_out c i arg2 harg2 arg3 harg3 arg4 harg4 arg5 harg5 arg6 harg6 arg7 harg7 arg8 harg8 arg9 harg9 hf _ _
      (by rw [none2]) (by rw [none2]) _ _ rfl rfl
  unfold kernelRun0_A.sl.r_2 kernelRun0_A.sl.v102 kernelRun0_A.sl.HS1_1_1
  rw [View.readCov_full]
  unfold kernelRun0_A.sl.r kernelRun0_A.sl.r_1 kernelRun0_A.sl.v70
  simp only [View.readAt_full arg2.view, View.readAt_full arg3.view, Memref.IsWhole.read_unread]
  exact finish i arg4 harg4 arg5 harg5 arg6 harg6 x0 x1 x2 x3 x4 hf (by omega) hl (k0_off5_inb i) r d

/-- One tile left over. -/
theorem caseB (hf : Fits x v x0 x1 x2 x3 x4) (hi : (i 1).val % 4 = 1) (hc1 : cond0_1 i) (r : Fin 512) (d : Fin 128) :
    kernelRun0_B.sl.r_2 (F := Ideal) c i arg2 harg2 arg3 harg3 arg4 harg4 arg5 harg5 arg6 harg6 arg7 harg7 arg8 harg8
      arg9 harg9 hc1 x0 x1 x2 x3 x4 (ix2 r d) = soft (x r) (v d) (512 * (i 1).val + (r.val + 1)) := by
  have hb : (i 1).val < 32 := (i 1).isLt
  have hl : Inv x v (fun _ => 2048 * ((i 1).val / 4))
      (kernelRun0_B.sl.v122 (F := Ideal) c i arg2 harg2 arg3 harg3 arg4 harg4 arg5 harg5 arg6 harg6 arg7 harg7 arg8
        harg8 arg9 harg9 x0 x1 x2 x3 x4)
      (kernelRun0_B.sl.v135 (F := Ideal) c i arg2 harg2 arg3 harg3 arg4 harg4 arg5 harg5 arg6 harg6 arg7 harg7 arg8
        harg8 arg9 harg9 x0 x1 x2 x3 x4) := by
    unfold kernelRun0_B.sl.v122 kernelRun0_B.sl.v135
    simp only [View.readAt_full arg2.view, View.readAt_full arg3.view, Memref.IsWhole.read_unread]
    exact loop_out c i arg2 harg2 arg3 harg3 arg4 harg4 arg5 harg5 arg6 harg6 arg7 harg7 arg8 harg8 arg9 harg9 hf _ _
      (by rw [none2]) (by rw [none2]) _ _ rfl rfl
  have h1 := hl.read hf harg4 harg5 harg6 (k0_off4_inb i hc1) (by rw [off4 i (by omega)]; congr 1; omega) (by omega)
  unfold kernelRun0_B.sl.r_2 kernelRun0_B.sl.v102 kernelRun0_B.sl.HS1_2
  rw [View.readCov_full]
  unfold kernelRun0_B.sl.v78 kernelRun0_B.sl.v91 kernelRun0_B.sl.HS0_1_1 kernelRun0_B.sl.HS1_1_1
  rw [View.readCov_full, View.readCov_full]
  rw [pay47_eq, pay46_eq]
  unfold kernelRun0_B.sl.r kernelRun0_B.sl.r_1 kernelRun0_B.sl.v70
  simp only [View.readAt_full arg2.view, View.readAt_full arg3.view, Memref.IsWhole.read_unread]
  exact finish i arg4 harg4 arg5 harg5 arg6 harg6 x0 x1 x2 x3 x4 hf (by omega) h1 (k0_off5_inb i) r d

/-- Two tiles left over. -/
theorem caseC (hf : Fits x v x0 x1 x2 x3 x4) (hi : (i 1).val % 4 = 2) (hc0 : cond0_0 i) (r : Fin 512) (d : Fin 128) :
    kernelRun0_C.sl.r_2 (F := Ideal) c i arg2 harg2 arg3 harg3 arg4 harg4 arg5 harg5 arg6 harg6 arg7 harg7 arg8 harg8
      arg9 harg9 hc0 x0 x1 x2 x3 x4 (ix2 r d) = soft (x r) (v d) (512 * (i 1).val + (r.val + 1)) := by
  have hb : (i 1).val < 32 := (i 1).isLt
  have hl : Inv x v (fun _ => 2048 * ((i 1).val / 4))
      (kernelRun0_C.sl.v122 (F := Ideal) c i arg2 harg2 arg3 harg3 arg4 harg4 arg5 harg5 arg6 harg6 arg7 harg7 arg8
        harg8 arg9 harg9 x0 x1 x2 x3 x4)
      (kernelRun0_C.sl.v135 (F := Ideal) c i arg2 harg2 arg3 harg3 arg4 harg4 arg5 harg5 arg6 harg6 arg7 harg7 arg8
        harg8 arg9 harg9 x0 x1 x2 x3 x4) := by
    unfold kernelRun0_C.sl.v122 kernelRun0_C.sl.v135
    simp only [View.readAt_full arg2.view, View.readAt_full arg3.view, Memref.IsWhole.read_unread]
    exact loop_out c i arg2 harg2 arg3 harg3 arg4 harg4 arg5 harg5 arg6 harg6 arg7 harg7 arg8 harg8 arg9 harg9 hf _ _
      (by rw [none2]) (by rw [none2]) _ _ rfl rfl
  have h1 := hl.read hf harg4 harg5 harg6 (k0_off3_inb i hc0 0) (off3_0 i) (by omega)
  have h2 := h1.read hf harg4 harg5 harg6 (k0_off3_inb i hc0 1) (off3_1 i) (by omega)
  unfold kernelRun0_C.sl.r_2 kernelRun0_C.sl.v102 kernelRun0_C.sl.HS1_3
  rw [View.readCov_full]
  unfold kernelRun0_C.sl.v78 kernelRun0_C.sl.v91 kernelRun0_C.sl.HS0_2 kernelRun0_C.sl.HS1_2
  rw [View.readCov_full, View.readCov_full]
  unfold kernelRun0_C.sl.v158 kernelRun0_C.sl.v171 kernelRun0_C.sl.HS0_1_1 kernelRun0_C.sl.HS1_1_1
  rw [View.readCov_full, View.readCov_full]
  rw [pay43_eq, pay42_eq, pay28_eq, pay27_eq]
  unfold kernelRun0_C.sl.r kernelRun0_C.sl.r_1 kernelRun0_C.sl.v70
  simp only [View.readAt_full arg2.view, View.readAt_full arg3.view, Memref.IsWhole.read_unread]
  exact finish i arg4 harg4 arg5 harg5 arg6 harg6 x0 x1 x2 x3 x4 hf (by omega) h2 (k0_off5_inb i) r d

/-- Three tiles left over. -/
theorem caseD (hf : Fits x v x0 x1 x2 x3 x4) (hi : (i 1).val % 4 = 3) (hc0 : cond0_0 i) (hc1 : cond0_1 i) (r : Fin 512) (d : Fin 128) :
    kernelRun0_D.sl.r_2 (F := Ideal) c i arg2 harg2 arg3 harg3 arg4 harg4 arg5 harg5 arg6 harg6 arg7 harg7 arg8 harg8
      arg9 harg9 hc0 hc1 x0 x1 x2 x3 x4 (ix2 r d) = soft (x r) (v d) (512 * (i 1).val + (r.val + 1)) := by
  have hb : (i 1).val < 32 := (i 1).isLt
  have hl : Inv x v (fun _ => 2048 * ((i 1).val / 4))
      (kernelRun0_D.sl.v122 (F := Ideal) c i arg2 harg2 arg3 harg3 arg4 harg4 arg5 harg5 arg6 harg6 arg7 harg7 arg8
        harg8 arg9 harg9 x0 x1 x2 x3 x4)
      (kernelRun0_D.sl.v135 (F := Ideal) c i arg2 harg2 arg3 harg3 arg4 harg4 arg5 harg5 arg6 harg6 arg7 harg7 arg8
        harg8 arg9 harg9 x0 x1 x2 x3 x4) := by
    unfold kernelRun0_D.sl.v122 kernelRun0_D.sl.v135
    simp only [View.readAt_full arg2.view, View.readAt_full arg3.view, Memref.IsWhole.read_unread]
    exact loop_out c i arg2 harg2 arg3 harg3 arg4 harg4 arg5 harg5 arg6 harg6 arg7 harg7 arg8 harg8 arg9 harg9 hf _ _
      (by rw [none2]) (by rw [none2]) _ _ rfl rfl
  have h1 := hl.read hf harg4 harg5 harg6 (k0_off3_inb i hc0 0) (off3_0 i) (by omega)
  have h2 := h1.read hf harg4 harg5 harg6 (k0_off3_inb i hc0 1) (off3_1 i) (by omega)
  have h3 := h2.read hf harg4 harg5 harg6 (k0_off4_inb i hc1) (by rw [off4 i (by omega)]; congr 1; omega) (by omega)
  unfold kernelRun0_D.sl.r_2 kernelRun0_D.sl.v102 kernelRun0_D.sl.HS1_4
  rw [View.readCov_full]
  unfold kernelRun0_D.sl.v78 kernelRun0_D.sl.v91 kernelRun0_D.sl.HS0_3 kernelRun0_D.sl.HS1_3
  rw [View.readCov_full, View.readCov_full]
  unfold kernelRun0_D.sl.v122_1 kernelRun0_D.sl.v135_1 kernelRun0_D.sl.HS0_2 kernelRun0_D.sl.HS1_2
  rw [View.readCov_full, View.readCov_full]
  unfold kernelRun0_D.sl.v158 kernelRun0_D.sl.v171 kernelRun0_D.sl.HS0_1_1 kernelRun0_D.sl.HS1_1_1
  rw [View.readCov_full, View.readCov_full]
  rw [pay47_eq, pay46_eq, pay43_eq, pay42_eq, pay28_eq, pay27_eq]
  unfold kernelRun0_D.sl.r kernelRun0_D.sl.r_1 kernelRun0_D.sl.v70
  simp only [View.readAt_full arg2.view, View.readAt_full arg3.view, Memref.IsWhole.read_unread]
  exact finish i arg4 harg4 arg5 harg5 arg6 harg6 x0 x1 x2 x3 x4 hf (by omega) h3 (k0_off5_inb i) r d

end Cert.KernelIdeal.Fox

end
-- ==== Proof.FoxHost.lean ====
/-
  What the host hands the attention kernel beside the queries and keys: for each head 128 lanes, six of them used. A
  query's lanes are its three sums and three ones, a key's lanes three ones and its three sums negated, so that the
  product of the two is the query's sum of forget gates less the key's.
-/
module

public import proofs.«01_k».proof.Proof.FoxRun
public import Idealize.ShloMosaic.Lib.Claim
public import Idealize.ShloMosaic.Lib.Pipeline.ValueKit

@[expose] public section

set_option maxRecDepth 16384

noncomputable section

namespace Cert.KernelIdeal.Fox

open Cert.KernelIdeal Cert.KernelIdeal.Gen Cert.Fox Idealize.ShloMosaic Idealize.ShloMosaic.TcCoe Idealize.SL.Sem
open Idealize.ShloMosaic.Pipeline (Dat)

variable (m : (ℓ : Loc nD τ sig) → Buf (Elt Ideal) ℓ)

/-- Three arrays of forget-gate sums side by side, for the 24 heads. -/
def parts (a b e : FVec Ideal S16384x128 .bf16) : FVec Ideal S16384x24x3 .bf16 :=
  concatenate S16384x24x3 2
    [⟨S16384x24x1, broadcastInDim S16384x24x1 ![0, 1] bcast_S16384x24_S16384x24x1_0_1
        (extractStridedSlice S16384x24 ![0, 0] a slices_S16384x128_S16384x24_0_0)⟩,
     ⟨S16384x24x1, broadcastInDim S16384x24x1 ![0, 1] bcast_S16384x24_S16384x24x1_0_1
        (extractStridedSlice S16384x24 ![0, 0] b slices_S16384x128_S16384x24_0_0)⟩,
     ⟨S16384x24x1, broadcastInDim S16384x24x1 ![0, 1] bcast_S16384x24_S16384x24x1_0_1
        (extractStridedSlice S16384x24 ![0, 0] e slices_S16384x128_S16384x24_0_0)⟩]
    concatenates_S16384x24x1_S16384x24x1_S16384x24x1_S16384x24x3_d2

/-- The host's first operations: the sums side by side. -/
theorem stage0_6 (W : Valuation τ sig (Elt Ideal)) : StableHlo.after hostOps0 W (Proc.devRef .tc main_v6)
    = parts (W (Proc.devRef .tc main_arg3)) (W (Proc.devRef .tc main_arg4)) (W (Proc.devRef .tc main_arg5)) := by
  after_results
  rfl

/-- Three ones for every key and head. -/
def ones : FVec Ideal S16384x24x3 .bf16 := broadcastInDim S16384x24x3 ![] bcast_S_S16384x24x3 (constant S_ .bf16 0x3F80#16)

/-- The host's first operations: the ones. -/
theorem stage0_7 (W : Valuation τ sig (Elt Ideal)) : StableHlo.after hostOps0 W (Proc.devRef .tc main_v7)
    = ones := by
  after_results
  rfl
/-- The host's first operations: the padding's zero. -/
theorem stage0_c (W : Valuation τ sig (Elt Ideal)) : StableHlo.after hostOps0 W (Proc.devRef .tc main_c)
    = constantI S_ 32 0#32 := by
  after_results

/-- The host's first operations: the six lanes of a query's head. -/
theorem stage0_8 (W : Valuation τ sig (Elt Ideal)) : StableHlo.after hostOps0 W (Proc.devRef .tc main_v8)
    = concatenate S16384x24x6 2 [⟨S16384x24x3, parts (W (Proc.devRef .tc main_arg3)) (W (Proc.devRef .tc main_arg4)) (W (Proc.devRef .tc main_arg5))⟩, ⟨S16384x24x3, ones⟩] concatenates_S16384x24x3_S16384x24x3_S16384x24x6_d2 := by
  after_results
  rfl

/-- Six lanes of a head, filled up with zeros to 128 lanes, and all heads side by side. -/
def spread (x : FVec Ideal S16384x24x6 .bf16) : FVec Ideal S16384x3072 .bf16 :=
  shapeCast S16384x3072 (pad S16384x24x128 ![0, 0, 0] ![0, 0, 122] ![0, 0, 0] x (sitofp (F := Ideal) .bf16 (constantI S_ 32 0#32)) pads_S16384x24x6_S16384x24x128_000_000_01220 h_S_) shapeCasts_S16384x24x128_S16384x3072

/-- The six lanes of a query's head: three sums, then three ones. -/
def lanesQ (a b e : FVec Ideal S16384x128 .bf16) : FVec Ideal S16384x24x6 .bf16 :=
  concatenate S16384x24x6 2 [⟨S16384x24x3, parts a b e⟩, ⟨S16384x24x3, ones⟩]
    concatenates_S16384x24x3_S16384x24x3_S16384x24x6_d2

/-- The six lanes of a key's head: three ones, then three sums negated. -/
def lanesK (a b e : FVec Ideal S16384x128 .bf16) : FVec Ideal S16384x24x6 .bf16 :=
  concatenate S16384x24x6 2 [⟨S16384x24x3, ones⟩, ⟨S16384x24x3, Host.negf (F := Ideal) (parts a b e)⟩]
    concatenates_S16384x24x3_S16384x24x3_S16384x24x6_d2

/-- The array the kernel reads beside the queries. -/
theorem host_qx (c : Dev nD) : V m c main_v10 = spread (lanesQ (m ((c : Thread nD τ).loc main_arg3))
    (m ((c : Thread nD τ).loc main_arg4)) (m ((c : Thread nD τ).loc main_arg5))) := by
  simp only [V, List.flatten_cons, List.flatten_nil, List.append_nil, StableHlo.after_append]
  generalize hW : StableHlo.after hostOps0 (fun b => m (c, b)) = W
  have h8 := stage0_8 (fun b => m (c, b))
  have hc := stage0_c (fun b => m (c, b))
  rw [hW] at h8 hc
  after_results
  rw [h8, hc]
  rfl

/-- The array the kernel reads beside the keys. -/
theorem host_kx (c : Dev nD) : V m c main_v14 = spread (lanesK (m ((c : Thread nD τ).loc main_arg3))
    (m ((c : Thread nD τ).loc main_arg4)) (m ((c : Thread nD τ).loc main_arg5))) := by
  simp only [V, List.flatten_cons, List.flatten_nil, List.append_nil, StableHlo.after_append]
  generalize hW : StableHlo.after hostOps0 (fun b => m (c, b)) = W
  have h6 := stage0_6 (fun b => m (c, b))
  have h7 := stage0_7 (fun b => m (c, b))
  rw [hW] at h6 h7
  after_results
  rw [h6, h7]
  rfl

/-- Column `d` of head `h`, among the 24 heads of 128 columns. -/
def lane (h : Fin 24) (d : Fin 128) : Fin 3072 := ⟨h.val * 128 + d.val, by omega⟩

/-- The column of head `h` in an array of 128 columns. -/
def col (h : Fin 24) : Fin 128 := ⟨h.val, by omega⟩

theorem parts_0 (a b e : FVec Ideal S16384x128 .bf16) (s : Fin 16384) (h : Fin 24) :
    parts a b e (ix3 s h 0) = a (ix2 s (col h)) := by
  pointwise [parts]
  rfl

theorem parts_1 (a b e : FVec Ideal S16384x128 .bf16) (s : Fin 16384) (h : Fin 24) :
    parts a b e (ix3 s h 1) = b (ix2 s (col h)) := by
  pointwise [parts]
  rfl

theorem parts_2 (a b e : FVec Ideal S16384x128 .bf16) (s : Fin 16384) (h : Fin 24) :
    parts a b e (ix3 s h 2) = e (ix2 s (col h)) := by
  pointwise [parts]
  rfl

theorem ones_apply (i) : ones i = (1 : EReal) := by
  pointwise [ones]

/-- A head's first three lanes, on the side of the queries. -/
theorem lanesQ_lt (a b e : FVec Ideal S16384x128 .bf16) (s : Fin 16384) (h : Fin 24) (k : Fin 3) (j : Fin 6)
    (hj : j.val = k.val) : lanesQ a b e (ix3 s h j) = parts a b e (ix3 s h k) := by
  obtain ⟨j, _⟩ := j
  obtain ⟨k, hk⟩ := k
  dsimp only at hj
  subst hj
  pointwise [lanesQ]
  exact dif_pos hk

/-- A head's last three lanes, on the side of the queries. -/
theorem lanesQ_ge (a b e : FVec Ideal S16384x128 .bf16) (s : Fin 16384) (h : Fin 24) (j : Fin 6) (hj : 3 ≤ j.val) :
    lanesQ a b e (ix3 s h j) = (1 : EReal) := by
  pointwise [lanesQ]
  rw [dif_neg (by omega)]
  exact ones_apply _

/-- A head's first three lanes, on the side of the keys. -/
theorem lanesK_lt (a b e : FVec Ideal S16384x128 .bf16) (s : Fin 16384) (h : Fin 24) (j : Fin 6) (hj : j.val < 3) :
    lanesK a b e (ix3 s h j) = (1 : EReal) := by
  pointwise [lanesK]
  rw [dif_pos hj]
  exact ones_apply _

/-- A head's last three lanes, on the side of the keys. -/
theorem lanesK_ge (a b e : FVec Ideal S16384x128 .bf16) (s : Fin 16384) (h : Fin 24) (k : Fin 3) (j : Fin 6)
    (hj : j.val = k.val + 3) : lanesK a b e (ix3 s h j) = (-(parts a b e (ix3 s h k) : EReal) : EReal) := by
  obtain ⟨j, _⟩ := j
  obtain ⟨k, hk⟩ := k
  dsimp only at hj
  subst hj
  pointwise [lanesK]
  rw [dif_neg (by omega)]
  rfl

/-- The six lanes of a head, in the filled array. -/
theorem spread_lt (x : FVec Ideal S16384x24x6 .bf16) (s : Fin 16384) (h : Fin 24) (d : Fin 6) (d' : Fin 128)
    (hd : d'.val = d.val) : spread x (ix2 s (lane h d')) = x (ix3 s h d) := by
  obtain ⟨d, hd6⟩ := d
  obtain ⟨h, hh⟩ := h
  dsimp only at hd
  have h1 : (lane ⟨h, hh⟩ d').val / 128 = h := by simp only [lane]; omega
  have h2 : (lane ⟨h, hh⟩ d').val % 128 = d := by simp only [lane]; omega
  pointwise [spread]
  rw [dif_pos ⟨by omega, by omega⟩]
  congr 1
  congr 1 <;> exact Fin.ext (by assumption)

/-- The other lanes hold zero. -/
theorem spread_ge (x : FVec Ideal S16384x24x6 .bf16) (s : Fin 16384) (h : Fin 24) (d' : Fin 128) (hd : 6 ≤ d'.val) :
    spread x (ix2 s (lane h d')) = (0 : EReal) := by
  have h2 : (lane h d').val % 128 = d'.val := by simp only [lane]; omega
  pointwise [spread]
  rw [dif_neg (by omega)]
  show ((((0#32 : BitVec 32).toInt : ℝ) : EReal)) = 0
  simp

/-- A query's lanes times a key's: the query's three sums and the key's three sums negated. -/
theorem lanes_sum (a b e : FVec Ideal S16384x128 .bf16) (t s : Fin 16384) (h : Fin 24) :
    ∑ d : Fin 128, spread (lanesQ a b e) (ix2 t (lane h d)) * spread (lanesK a b e) (ix2 s (lane h d))
      = ((a (ix2 t (col h)) : EReal) + b (ix2 t (col h)) + e (ix2 t (col h))
          + -a (ix2 s (col h)) + -b (ix2 s (col h)) + -e (ix2 s (col h)) : EReal) := by
  rw [Fin.sum_univ_add (a := 6) (b := 122) (fun d : Fin (6 + 122) =>
    (spread (lanesQ a b e) (ix2 t (lane h d)) * spread (lanesK a b e) (ix2 s (lane h d)) : EReal))]
  have hz : ∑ i : Fin 122, (spread (lanesQ a b e) (ix2 t (lane h (Fin.natAdd 6 i)))
      * spread (lanesK a b e) (ix2 s (lane h (Fin.natAdd 6 i))) : EReal) = 0 :=
    Finset.sum_eq_zero fun i _ => by
      rw [spread_ge _ t h (Fin.natAdd 6 i) (by simp), zero_mul]
  rw [hz, add_zero]
  have hl : ∀ i : Fin 6, (spread (lanesQ a b e) (ix2 t (lane h (Fin.castAdd 122 i)))
      * spread (lanesK a b e) (ix2 s (lane h (Fin.castAdd 122 i))) : EReal)
      = (lanesQ a b e (ix3 t h i) * lanesK a b e (ix3 s h i) : EReal) := fun i => by
    rw [spread_lt _ t h i (Fin.castAdd 122 i) rfl, spread_lt _ s h i (Fin.castAdd 122 i) rfl]
  rw [Finset.sum_congr rfl fun i _ => hl i, Fin.sum_univ_six]
  rw [lanesQ_lt a b e t h 0 0 rfl, lanesQ_lt a b e t h 1 1 rfl, lanesQ_lt a b e t h 2 2 rfl,
    lanesQ_ge a b e t h 3 (by decide), lanesQ_ge a b e t h 4 (by decide), lanesQ_ge a b e t h 5 (by decide),
    lanesK_lt a b e s h 0 (by decide), lanesK_lt a b e s h 1 (by decide), lanesK_lt a b e s h 2 (by decide),
    lanesK_ge a b e s h 0 3 rfl, lanesK_ge a b e s h 1 4 rfl, lanesK_ge a b e s h 2 5 rfl,
    parts_0, parts_1, parts_2, parts_0, parts_1, parts_2]
  simp only [mul_one, one_mul]

end Cert.KernelIdeal.Fox

end
-- ==== Proof.FoxPoint.lean ====
/-
  The attention over whole arrays: what each grid point of the kernel stores is its tile of one function `attn` of the six
  arguments, and the tiles fill the result.
-/
module

public import proofs.«01_k».proof.Proof.FoxHost
public import proofs.«01_k».proof.Proof.Gen.KernelIdeal.Value

@[expose] public section

set_option maxRecDepth 16384

noncomputable section

namespace Cert.KernelIdeal.Fox

open Cert.KernelIdeal Cert.KernelIdeal.Gen Cert.Fox Idealize.ShloMosaic Idealize.ShloMosaic.TcCoe Idealize.SL.Sem
open Idealize.ShloMosaic.Pipeline (Dat)

/-- Every element is a real number. -/
def AllReal {s : Shape} {φ : FTy} (x : FVec Ideal s φ) : Prop := ∀ j, ∃ r : ℝ, x j = (r : EReal)

/-- An element as a real number. -/
def rv {s : Shape} {φ : FTy} (x : FVec Ideal s φ) (j : s.Idx) : ℝ := EReal.toReal (x j)

theorem AllReal.eq {s : Shape} {φ : FTy} {x : FVec Ideal s φ} (h : AllReal x) (j : s.Idx) : x j = (rv x j : EReal) := by
  obtain ⟨r, hr⟩ := h j
  rw [rv, hr, EReal.toReal_coe]

section Arrays

variable (q k v : FVec Ideal S16384x3072 .bf16) (c0 c1 c2 : FVec Ideal S16384x128 .bf16)

/-- The sum of the forget gates up to position `t`, kept as three parts. -/
def gate (t : Fin 16384) (h : Fin 24) : ℝ := rv c0 (ix2 t (col h)) + rv c1 (ix2 t (col h)) + rv c2 (ix2 t (col h))

/-- The logit of query `t` and key `s` in head `h`, to base two. -/
def score (h : Fin 24) (t : Fin 16384) (s : ℕ) : ℝ :=
  if hs : s < 16384 then
    ∑ d : Fin 128, rv q (ix2 t (lane h d)) * rv k (ix2 ⟨s, hs⟩ (lane h d)) + gate c0 c1 c2 t h - gate c0 c1 c2 ⟨s, hs⟩ h
  else 0

/-- The value of key `s` in head `h`. -/
def val (h : Fin 24) (d : Fin 128) (s : ℕ) : EReal := if hs : s < 16384 then v (ix2 ⟨s, hs⟩ (lane h d)) else 0

/-- Causal attention with forget gates, over whole arrays. -/
def attn : FVec Ideal S16384x3072 .bf16 := fun j =>
  let h : Fin 24 := ⟨(j 1).val / 128, by have : (j 1).val < 3072 := (j 1).isLt; omega⟩
  let d : Fin 128 := ⟨(j 1).val % 128, by omega⟩
  soft (score q k c0 c1 c2 h (j 0)) (val v h d) ((j 0).val + 1)

theorem attn_apply (t : Fin 16384) (h : Fin 24) (d : Fin 128) : attn q k v c0 c1 c2 (ix2 t (lane h d))
    = soft (score q k c0 c1 c2 h t) (val v h d) (t.val + 1) := by
  have e1 : (⟨(lane h d).val / 128, by have := (lane h d).isLt; omega⟩ : Fin 24) = h :=
    Fin.ext (by simp only [lane]; omega)
  have e2 : (⟨(lane h d).val % 128, by omega⟩ : Fin 128) = d := Fin.ext (by simp only [lane]; omega)
  show soft (score q k c0 c1 c2 ⟨(lane h d).val / 128, _⟩ t) (val v ⟨(lane h d).val / 128, _⟩ ⟨(lane h d).val % 128, _⟩) (t.val + 1) = _
  rw [e1, e2]

end Arrays

variable (m : (ℓ : Loc nD τ sig) → Buf (Elt Ideal) ℓ)

/-- The head a grid point works on. -/
def head (t : Fin cfg0.N) : Fin 24 := ⟨t.val / 32, by have : t.val < 768 := t.isLt; omega⟩

/-- The position of row `r` of a grid point's block. -/
def row (t : Fin cfg0.N) (r : Fin 512) : Fin 16384 := ⟨t.val % 32 * 512 + r.val, by omega⟩

/-- Which block of each array a grid point works on. -/
theorem idx : ∀ t : Fin cfg0.N, win0_0.index t = ![t.val % 32, t.val / 32] ∧ win0_1.index t = ![t.val % 32, t.val / 32]
    ∧ win0_2.index t = ![0, t.val / 32] ∧ win0_3.index t = ![0, t.val / 32] ∧ win0_4.index t = ![0, t.val / 32]
    ∧ win0_5.index t = ![t.val % 32, t.val / 32] :=
  (by decide +kernel : ∀ t : Fin grid0.N, _)

/-- A grid point's second coordinate is its block of queries. -/
theorem coords_1 : ∀ t : Fin cfg0.N, (grid0.coords t 1).val = t.val % 32 := (by decide +kernel : ∀ t : Fin grid0.N, _)

/-- A block of queries. -/
theorem read_0 (c : Dev nD) (t : Fin cfg0.N) (r : Fin 512) (d : Fin 128) :
    iblk m c 0 t (ix2 r d) = m ((c : Thread nD τ).loc main_arg0) (ix2 (row t r) (lane (head t) d)) := by
  blk_point [iblk, V, idx t]
  all_goals simp only [row, lane, head]

/-- The lanes beside a block of queries. -/
theorem read_1 (c : Dev nD) (t : Fin cfg0.N) (r : Fin 512) (d : Fin 128) :
    iblk m c 1 t (ix2 r d) = V m c main_v10 (ix2 (row t r) (lane (head t) d)) := by
  blk_point [iblk, idx t]
  all_goals simp only [row, lane, head]

/-- A head's keys. -/
theorem read_2 (c : Dev nD) (t : Fin cfg0.N) (s : Fin 16384) (d : Fin 128) :
    iblk m c 2 t (ix2 s d) = m ((c : Thread nD τ).loc main_arg1) (ix2 s (lane (head t) d)) := by
  blk_point [iblk, V, idx t]
  all_goals simp only [row, lane, head]

/-- The lanes beside a head's keys. -/
theorem read_3 (c : Dev nD) (t : Fin cfg0.N) (s : Fin 16384) (d : Fin 128) :
    iblk m c 3 t (ix2 s d) = V m c main_v14 (ix2 s (lane (head t) d)) := by
  blk_point [iblk, idx t]
  all_goals simp only [row, lane, head]

/-- A head's values. -/
theorem read_4 (c : Dev nD) (t : Fin cfg0.N) (s : Fin 16384) (d : Fin 128) :
    iblk m c 4 t (ix2 s d) = m ((c : Thread nD τ).loc main_arg2) (ix2 s (lane (head t) d)) := by
  blk_point [iblk, V, idx t]
  all_goals simp only [row, lane, head]

section Out

variable (c : Dev nD) (i : grid0.Coords) (arg2 : Memref sig .tc .vmem S512x128 .bf16) (harg2 : arg2.IsWhole)
  (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S16384x128 .bf16) (harg6 : arg6.IsWhole)
  (arg7 : Memref sig .tc .vmem S512x128 .bf16) (harg7 : arg7.IsWhole)
  (arg8 : Memref sig .tc .vmem S512x128 .f32) (harg8 : arg8.IsWhole)
  (arg9 : Memref sig .tc .vmem S512x256 .f32) (harg9 : arg9.IsWhole)
  (x0 x1 : Vec Ideal S512x128 .bf16) (x2 x3 x4 : Vec Ideal S16384x128 .bf16)

/-- What a grid point of case A leaves in its result block is the word it stores. -/
theorem out_A (hc0 : ¬cond0_0 i) (hc1 : ¬cond0_1 i) :
    out0_A_5 (F := Ideal) c i arg2 harg2 arg3 harg3 arg4 harg4 arg5 harg5 arg6 harg6 arg7 harg7 arg8 harg8 arg9 harg9
        hc0 hc1 x0 x1 x2 x3 x4
      = kernelRun0_A.sl.r_2 (F := Ideal) c i arg2 harg2 arg3 harg3 arg4 harg4 arg5 harg5 arg6 harg6 arg7 harg7 arg8 harg8
        arg9 harg9 x0 x1 x2 x3 x4 := by
  unfold out0_A_5
  exact View.read_writes_full VO0_5 VO0_5.junk _ _ []

/-- What a grid point of case B leaves in its result block is the word it stores. -/
theorem out_B (hc0 : ¬cond0_0 i) (hc1 : cond0_1 i) :
    out0_B_5 (F := Ideal) c i arg2 harg2 arg3 harg3 arg4 harg4 arg5 harg5 arg6 harg6 arg7 harg7 arg8 harg8 arg9 harg9
        hc0 hc1 x0 x1 x2 x3 x4
      = kernelRun0_B.sl.r_2 (F := Ideal) c i arg2 harg2 arg3 harg3 arg4 harg4 arg5 harg5 arg6 harg6 arg7 harg7 arg8 harg8
        arg9 harg9 hc1 x0 x1 x2 x3 x4 := by
  unfold out0_B_5
  exact View.read_writes_full VO0_5 VO0_5.junk _ _ []

/-- What a grid point of case C leaves in its result block is the word it stores. -/
theorem out_C (hc0 : cond0_0 i) (hc1 : ¬cond0_1 i) :
    out0_C_5 (F := Ideal) c i arg2 harg2 arg3 harg3 arg4 harg4 arg5 harg5 arg6 harg6 arg7 harg7 arg8 harg8 arg9 harg9
        hc0 hc1 x0 x1 x2 x3 x4
      = kernelRun0_C.sl.r_2 (F := Ideal) c i arg2 harg2 arg3 harg3 arg4 harg4 arg5 harg5 arg6 harg6 arg7 harg7 arg8 harg8
        arg9 harg9 hc0 x0 x1 x2 x3 x4 := by
  unfold out0_C_5
  exact View.read_writes_full VO0_5 VO0_5.junk _ _ []

/-- What a grid point of case D leaves in its result block is the word it stores. -/
theorem out_D (hc0 : cond0_0 i) (hc1 : cond0_1 i) :
    out0_D_5 (F := Ideal) c i arg2 harg2 arg3 harg3 arg4 harg4 arg5 harg5 arg6 harg6 arg7 harg7 arg8 harg8 arg9 harg9
        hc0 hc1 x0 x1 x2 x3 x4
      = kernelRun0_D.sl.r_2 (F := Ideal) c i arg2 harg2 arg3 harg3 arg4 harg4 arg5 harg5 arg6 harg6 arg7 harg7 arg8 harg8
        arg9 harg9 hc0 hc1 x0 x1 x2 x3 x4 := by
  unfold out0_D_5
  exact View.read_writes_full VO0_5 VO0_5.junk _ _ []

end Out

section Point

variable {m} {c : Dev nD} {q k v : FVec Ideal S16384x3072 .bf16} {c0 c1 c2 : FVec Ideal S16384x128 .bf16}

/-- The six arguments, all but the values of real numbers. -/
structure Args (m : (ℓ : Loc nD τ sig) → Buf (Elt Ideal) ℓ) (c : Dev nD) (q k v : FVec Ideal S16384x3072 .bf16)
    (c0 c1 c2 : FVec Ideal S16384x128 .bf16) : Prop where
  eq : m ((c : Thread nD τ).loc main_arg0) = q
  ek : m ((c : Thread nD τ).loc main_arg1) = k
  ev : m ((c : Thread nD τ).loc main_arg2) = v
  ec0 : m ((c : Thread nD τ).loc main_arg3) = c0
  ec1 : m ((c : Thread nD τ).loc main_arg4) = c1
  ec2 : m ((c : Thread nD τ).loc main_arg5) = c2
  rq : AllReal q
  rk : AllReal k
  r0 : AllReal c0
  r1 : AllReal c1
  r2 : AllReal c2

/-- The logit the kernel forms of its two products is `score`. -/
theorem logit_real (rq : AllReal q) (rk : AllReal k) (r0 : AllReal c0) (r1 : AllReal c1) (r2 : AllReal c2)
    (h : Fin 24) (t s : Fin 16384) :
    (∑ d : Fin 128, (q (ix2 t (lane h d)) * k (ix2 s (lane h d)) : EReal)
      + ∑ d : Fin 128, (spread (lanesQ c0 c1 c2) (ix2 t (lane h d)) * spread (lanesK c0 c1 c2) (ix2 s (lane h d)) : EReal) : EReal)
      = ((score q k c0 c1 c2 h t s.val : ℝ) : EReal) := by
  have h1 : ∑ d : Fin 128, (q (ix2 t (lane h d)) * k (ix2 s (lane h d)) : EReal)
      = ((∑ d : Fin 128, rv q (ix2 t (lane h d)) * rv k (ix2 s (lane h d)) : ℝ) : EReal) := by
    rw [coe_sum]
    exact Finset.sum_congr rfl fun d _ => by rw [rq.eq, rk.eq, EReal.coe_mul]
  rw [h1, lanes_sum, r0.eq, r1.eq, r2.eq, r0.eq (ix2 s (col h)), r1.eq (ix2 s (col h)), r2.eq (ix2 s (col h)), score,
    dif_pos s.isLt]
  simp only [← EReal.coe_neg, ← EReal.coe_add]
  congr 1
  simp only [gate]
  ring

/-- What a grid point reads fits the logits and values of its head. -/
theorem fits (A : Args m c q k v c0 c1 c2) (t : Fin cfg0.N) :
    Fits (fun r => score q k c0 c1 c2 (head t) (row t r)) (fun d => val v (head t) d)
      (iblk m c 0 t) (iblk m c 1 t) (iblk m c 2 t) (iblk m c 3 t) (iblk m c 4 t) where
  logit r s := by
    have hq : ∀ d, iblk m c 0 t (ix2 r d) = q (ix2 (row t r) (lane (head t) d)) := fun d =>
      (read_0 m c t r d).trans (congrFun A.eq _)
    have hk : ∀ d, iblk m c 2 t (ix2 s d) = k (ix2 s (lane (head t) d)) := fun d =>
      (read_2 m c t s d).trans (congrFun A.ek _)
    have hqx : ∀ d, iblk m c 1 t (ix2 r d) = spread (lanesQ c0 c1 c2) (ix2 (row t r) (lane (head t) d)) := fun d => by
      have h := (read_1 m c t r d).trans (congrFun (host_qx m c) _)
      rw [A.ec0, A.ec1, A.ec2] at h
      exact h
    have hkx : ∀ d, iblk m c 3 t (ix2 s d) = spread (lanesK c0 c1 c2) (ix2 s (lane (head t) d)) := fun d => by
      have h := (read_3 m c t s d).trans (congrFun (host_kx m c) _)
      rw [A.ec0, A.ec1, A.ec2] at h
      exact h
    rw [← logit_real A.rq A.rk A.r0 A.r1 A.r2]
    simp only [hq, hk, hqx, hkx]
  value s d := by
    refine ((read_4 m c t s d).trans (congrFun A.ev _)).trans ?_
    rw [val, dif_pos s.isLt]

/-- What a grid point stores is its tile of the attention. -/
theorem point (A : Args m c q k v c0 c1 c2) (t : Fin cfg0.N) (r : Fin 512) (d : Fin 128) :
    outsAt0 m c t.val t.isLt (ix2 r d) = attn q k v c0 c1 c2 (ix2 (row t r) (lane (head t) d)) := by
  rw [attn_apply]
  have hi := coords_1 t
  have hn : (row t r).val + 1 = 512 * (grid0.coords t 1).val + (r.val + 1) := by
    rw [hi]; simp only [row]; omega
  rw [hn]
  by_cases h0 : t.val % 4 = 2 ∨ t.val % 4 = 3
  · by_cases h1 : t.val % 2 = 1
    · rw [outsAt0_D m c t h0 h1, out_D]
      exact caseD c (grid0.coords t) _ _ _ _ _ _ _ _ _ _ _ _ _ _ _ _ _ _ _ _ _ (fits A t) (by rw [hi]; omega) _ _ r d
    · rw [outsAt0_C m c t h0 h1, out_C]
      exact caseC c (grid0.coords t) _ _ _ _ _ _ _ _ _ _ _ _ _ _ _ _ _ _ _ _ _ (fits A t) (by rw [hi]; omega) _ r d
  · by_cases h1 : t.val % 2 = 1
    · rw [outsAt0_B m c t h0 h1, out_B]
      exact caseB c (grid0.coords t) _ _ _ _ _ _ _ _ _ _ _ _ _ _ _ _ _ _ _ _ _ (fits A t) (by rw [hi]; omega) _ r d
    · rw [outsAt0_A m c t h0 h1, out_A]
      exact caseA c (grid0.coords t) _ _ _ _ _ _ _ _ _ _ _ _ _ _ _ _ _ _ _ _ _ (fits A t) (by rw [hi]; omega) r d

/-- The tiles fill the result: it ends holding the attention of the arguments. -/
theorem final (A : Args m c q k v c0 c1 c2) : (dats m 0 c).arrAt 5 (cfgs 0).N = attn q k v c0 c1 c2 := by
  refine (dats m 0 c).arrAt_eq_of_covers 5 _ (by decide +kernel) fun t _ y => ?_
  idx_vars y
  blk_simp
  rw [after0_5]
  refine (point A t y0 y1).trans (congrArg (attn q k v c0 c1 c2) ?_)
  blk_ext [idx t]
  all_goals simp only [row, lane, head]

end Point

end Cert.KernelIdeal.Fox

end
-- ==== Proof.FoxReference.lean ====
/-
  The reference's attention, element by element: its masked logits, the maximum of a row of them, and the weighted mean of
  the values, which is `attn` of the six arguments where all but the values are real numbers.
-/
module

public import proofs.«01_k».proof.Proof.FoxPoint
public import proofs.«01_k».proof.Proof.Gen.ReferenceIdeal.Read

@[expose] public section

set_option maxRecDepth 16384

noncomputable section

namespace Cert.ReferenceIdeal.Fox

open Cert.ReferenceIdeal Cert.ReferenceIdeal.Gen Cert.ReferenceIdeal.Read Idealize.ShloMosaic Cert.Fox
open Cert.KernelIdeal.Fox (AllReal rv gate score val attn lane col attn_apply negInf)

/-- The word of two. -/
theorem two : Ideal.ofBits FTy.f32 1073741824#32 = ((2 : ℝ) : EReal) := by
  simp [Ideal.ofBits, Ideal.ieee]
  rw [← EReal.coe_mul]
  norm_num

/-- The maximum over the last axis. -/
theorem reduce_max {n0 n1 n2 : ℕ} {u : Shape} (y : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf y init h hu (ix2 a b)
      = Finset.univ.fold max (init (Shape.Idx.first hu)) fun x : Fin n2 => (y (ix3 a b x) : EReal) := by
  pointwise

/-- A maximum from minus infinity, of elements of which one is real and none is plus infinity, is real. -/
theorem fold_real {N : ℕ} (s : Fin N → EReal) (hs : ∀ k, s k = ⊥ ∨ ∃ r : ℝ, s k = (r : EReal)) (k₀ : Fin N) (r₀ : ℝ)
    (h₀ : s k₀ = (r₀ : EReal)) : ∃ M : ℝ, Finset.univ.fold max ⊥ s = (M : EReal) := by
  show ∃ M : ℝ, Finset.univ.sup s = (M : EReal)
  refine max_real ⊥ (.inl rfl) s hs k₀ r₀ h₀ _ (fun k => Finset.le_sup (Finset.mem_univ k)) (.inr (.inr ?_))
  obtain ⟨k, -, hk⟩ := Finset.exists_mem_eq_sup Finset.univ ⟨k₀, Finset.mem_univ _⟩ s
  exact ⟨k, hk⟩

section Arrays

variable {q k v : FVec Ideal S16384x3072 .bf16} {c0 c1 c2 : FVec Ideal S16384x128 .bf16}

/-- The masked logit of query `t` and key `s`. -/
theorem logit (rq : AllReal q) (rk : AllReal k) (r0 : AllReal c0) (r1 : AllReal c1) (r2 : AllReal c2)
    (h : Fin 24) (t s : Fin 16384) : val_main_v29 (F := Ideal) q k c0 c1 c2 (ix3 h t s)
      = if s.val ≤ t.val then ((score q k c0 c1 c2 h t s.val * Real.log 2 : ℝ) : EReal) else ⊥ := by
  pointwise [val_main_v29, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v3, val_main_v2, val_main_v1, val_main_v0,
    val_main_call0_v1, val_main_call0_v2, val_main_call0_v0, val_main_cst_0, val_main_v28, val_main_v27, val_main_v26,
    val_main_v25, val_main_v24, val_main_cst]
  by_cases hst : s.val ≤ t.val
  · rw [if_pos hst, WordCmp.select_of_eq_one ((WordCmp.cmpi_sle_ofNat_eq_one_iff (by omega) (by omega)).mpr hst), two,
      Ideal.log_coe, if_neg (by norm_num)]
    rw [r0.eq, r1.eq, r2.eq, r0.eq (ix2 s _), r1.eq (ix2 s _), r2.eq (ix2 s _)]
    have h1 : ∑ d : Fin 128, (q (ix2 t (lane h d)) * k (ix2 s (lane h d)) : EReal)
        = ((∑ d : Fin 128, rv q (ix2 t (lane h d)) * rv k (ix2 s (lane h d)) : ℝ) : EReal) := by
      rw [coe_sum]
      exact Finset.sum_congr rfl fun d _ => by rw [rq.eq, rk.eq, EReal.coe_mul]
    refine (congrArg (fun z : EReal => (z + _ - _) * _) h1).trans ?_
    simp only [← EReal.coe_add, ← EReal.coe_sub, ← EReal.coe_mul]
    rw [score, dif_pos s.isLt]
    rfl
  · rw [if_neg hst, WordCmp.select_of_eq_zero ((WordCmp.cmpi_sle_ofNat_eq_zero_iff (by omega) (by omega)).mpr hst)]
    exact negInf

/-- The maximum of a row of logits is a real number: the query's own logit is. -/
theorem max_row (rq : AllReal q) (rk : AllReal k) (r0 : AllReal c0) (r1 : AllReal c1) (r2 : AllReal c2)
    (h : Fin 24) (t : Fin 16384) : ∃ M : ℝ, val_main_v32 (F := Ideal) q k c0 c1 c2 (ix2 h t) = (M : EReal) := by
  have e : val_main_v32 (F := Ideal) q k c0 c1 c2 (ix2 h t)
      = Finset.univ.fold max ⊥ fun x : Fin 16384 => (val_main_v29 (F := Ideal) q k c0 c1 c2 (ix3 h t x) : EReal) := by
    have e30 : val_main_v30 (F := Ideal) q k c0 c1 c2 (ix2 h t)
        = Finset.univ.fold max ⊥ fun x : Fin 16384 => (val_main_v29 (F := Ideal) q k c0 c1 c2 (ix3 h t x) : EReal) := by
      unfold val_main_v30
      refine (reduce_max (val_main_v29 (F := Ideal) q k c0 c1 c2) _ _ _ h t).trans ?_
      rw [val_main_cst_1_apply]
      exact congrArg (fun z => Finset.univ.fold max z _) negInf
    rw [val_main_v32_apply, val_main_v31_apply, val_main_cst_2_apply, e30]
    exact (congrArg (fun z : EReal => max z _) negInf).trans (max_eq_right bot_le)
  rw [e]
  refine fold_real _ (fun s => ?_) t (score q k c0 c1 c2 h t t.val * Real.log 2) ?_
  · rw [logit rq rk r0 r1 r2]
    split_ifs
    · exact .inr ⟨_, rfl⟩
    · exact .inl rfl
  · rw [logit rq rk r0 r1 r2, if_pos le_rfl]

/-- An element of the reference's result, the head of its column given by a division. -/
theorem mean_div (t : Fin 16384) (e : Fin 3072) : val_main_v46 (F := Ideal) q k v c0 c1 c2 (ix2 t e)
    = ∑ x : Fin 16384, (v (ix2 x e) : EReal) * Ideal.div
        (Ideal.exp (val_main_v29 (F := Ideal) q k c0 c1 c2 (ix3 (⟨e.val / 128, by omega⟩ : Fin 24) t x)
          - val_main_v32 (F := Ideal) q k c0 c1 c2 (ix2 (⟨e.val / 128, by omega⟩ : Fin 24) t)))
        (∑ y : Fin 16384, Ideal.exp (val_main_v29 (F := Ideal) q k c0 c1 c2 (ix3 (⟨e.val / 128, by omega⟩ : Fin 24) t y)
          - val_main_v32 (F := Ideal) q k c0 c1 c2 (ix2 (⟨e.val / 128, by omega⟩ : Fin 24) t))) := by
  pointwise [val_main_v46, val_main_v45, val_main_v44, val_main_v43, val_main_v42, val_main_v41, val_main_v40,
    val_main_v39, val_main_v38, val_main_v37, val_main_v36, val_main_v35, val_main_v34, val_main_v33, val_main_cst_3,
    val_main_v5, val_main_v4]

/-- An element of the reference's result. -/
theorem mean (t : Fin 16384) (h : Fin 24) (d : Fin 128) : val_main_v46 (F := Ideal) q k v c0 c1 c2 (ix2 t (lane h d))
    = ∑ x : Fin 16384, (v (ix2 x (lane h d)) : EReal) * Ideal.div
        (Ideal.exp (val_main_v29 (F := Ideal) q k c0 c1 c2 (ix3 h t x) - val_main_v32 (F := Ideal) q k c0 c1 c2 (ix2 h t)))
        (∑ y : Fin 16384, Ideal.exp (val_main_v29 (F := Ideal) q k c0 c1 c2 (ix3 h t y)
          - val_main_v32 (F := Ideal) q k c0 c1 c2 (ix2 h t))) := by
  have e1 : (⟨(lane h d).val / 128, by have := (lane h d).isLt; omega⟩ : Fin 24) = h :=
    Fin.ext (by simp only [lane]; omega)
  refine (mean_div t (lane h d)).trans ?_
  rw [e1]

/-- The reference's result is the attention of its arguments. -/
theorem reference (rq : AllReal q) (rk : AllReal k) (r0 : AllReal c0) (r1 : AllReal c1)
    (r2 : AllReal c2) : val_main_v46 (F := Ideal) q k v c0 c1 c2 = attn q k v c0 c1 c2 := by
  funext j
  idx_vars j
  obtain ⟨h, d, rfl⟩ : ∃ h d, j1 = lane h d :=
    ⟨⟨j1.val / 128, by omega⟩, ⟨j1.val % 128, by omega⟩, Fin.ext (by simp only [lane]; omega)⟩
  obtain ⟨M, hM⟩ := max_row rq rk r0 r1 r2 h j0
  rw [mean, attn_apply, hM]
  refine (Finset.sum_congr rfl fun x _ => mul_comm _ _).trans ?_
  exact masked_softmax (score q k c0 c1 c2 h j0) (val v h d) 16384 j0.val j0.isLt M _ _
    (fun s => logit rq rk r0 r1 r2 h j0 s)
    (fun s => by rw [val, dif_pos s.isLt])

end Arrays

end Cert.ReferenceIdeal.Fox

end
-- ==== Proof.Fox.lean ====
/-
  The attention's value claim: of queries, keys and gates that are real numbers, the kernel's result is the reference's.

  The precondition asks of every element of these arguments that its absolute value be below infinity.
-/
module

public import proofs.«01_k».proof.Defs
public import proofs.«01_k».proof.Proof.FoxReference
public import proofs.«01_k».proof.Proof.Gen.Pre_finite
public import Idealize.ShloMosaic.Lib.Claim

@[expose] public section

set_option maxRecDepth 16384

noncomputable section

namespace Cert.KernelIdeal.Fox

open Cert.KernelIdeal Cert.KernelIdeal.Gen Idealize.ShloMosaic Idealize.ShloMosaic.TcCoe Idealize.SL.Sem

/-- The word of plus infinity. -/
theorem posInf : Ideal.ofBits FTy.f32 2139095040#32 = ⊤ := by
  simp [Ideal.ofBits, Ideal.ieee]

/-- An array whose elements are all below infinity in absolute value is an array of real numbers. -/
theorem allReal {s : Shape} (x : FVec Ideal s .bf16) (hx : FTy.bits .bf16 < FTy.bits .f32)
    (hb : (⟨0, ![]⟩ : Shape).BroadcastsInDim s (![] : Fin 0 → Fin s.rank))
    (h : cmpf (F := Ideal) .olt (Host.absf (extf .f32 x hx))
      (broadcastInDim s ![] hb (constant ⟨0, ![]⟩ .f32 0x7F800000#32)) = fun _ => 1#1) : AllReal x := by
  intro j
  have hj : BitVec.ofBool (decide (max (x j : EReal) (-(x j : EReal)) < Ideal.ofBits FTy.f32 2139095040#32)) = 1#1 :=
    congrFun h j
  rw [WordCmp.ofBool_eq_one_iff, decide_eq_true_eq, posInf, max_lt_iff] at hj
  have h1 : (x j : EReal) ≠ ⊤ := hj.1.ne
  have h2 : (x j : EReal) ≠ ⊥ := fun e => hj.2.ne (by rw [e]; rfl)
  exact ⟨EReal.toReal (x j), (EReal.coe_toReal h1 h2).symm⟩

variable (m : (ℓ : Loc nD τ sig) → Buf (Elt Ideal) ℓ)

/-- What the precondition gives of the six arguments. -/
theorem args (hpre : Cert.Pre_KernelIdeal_finite m) (c : Dev nD) :
    Args m c (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  obtain ⟨h0, h1, h3, h4, h5⟩ := hpre c
  exact ⟨rfl, rfl, rfl, rfl, rfl, rfl, allReal _ _ _ h0, allReal _ _ _ h1, allReal _ _ _ h3,
    allReal _ _ _ h4, allReal _ _ _ h5⟩

/-- Kernel and reference leave the same result. -/
theorem algebraic : Cert.algebraic_KernelIdeal_ReferenceIdeal_pre_finite := by
  intro m g m' g' hpre hagree
  refine ⟨fun c => (dats m 0 c).arrAt 5 (cfgs 0).N, ?_, ?_⟩
  · exact Cert.KernelIdeal.Value.run_blocks m g
  · refine (θ_run Cert.ReferenceIdeal.defs _ _).mono (fun r h c => ⟨(h c).1.trans ?_, (h c).2⟩)
      (Cert.ReferenceIdeal.Value.run m' g')
    have A := args m hpre c
    obtain ⟨e0, e1, e2, e3, e4, e5⟩ := hagree c
    refine (Cert.ReferenceIdeal.Read.val_main_v46_eq m' c).trans ?_
    rw [e0, e1, e2, e3, e4, e5]
    exact (Cert.ReferenceIdeal.Fox.reference A.rq A.rk A.r0 A.r1 A.r2).trans (final A).symm

end Cert.KernelIdeal.Fox

end
-- ==== Proof.Swiglu.lean ====
/-
  The gated up projection of the feed-forward layer: `silu (h @ w1) * (h @ w3)`.

  The kernel computes it in tiles of 1024 rows by 512 columns, each from the whole rows of `h` and the whole columns of
  the two weights. Every tile is the tile of one function `gated` of the three arrays, and the tiles fill the result.
-/
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Claim

@[expose] public section

set_option maxRecDepth 16384

noncomputable section

namespace Cert.Kernel2Ideal.Swiglu

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def gated (h : FVec Ideal S16384x4096 .bf16) (w1 w3 : FVec Ideal S4096x11264 .bf16) : FVec Ideal S16384x11264 .bf16 :=
  fun j =>
    let a : EReal := ∑ k : Fin 4096, h (ix2 (j 0) k) * w1 (ix2 k (j 1))
    let b : EReal := ∑ k : Fin 4096, h (ix2 (j 0) k) * w3 (ix2 k (j 1))
    a * Ideal.logistic a * b

/-- Which block of each array a grid point works on. -/
theorem idx : ∀ t : Fin cfg0.N, win0_0.index t = ![t.val / 22, 0] ∧ win0_1.index t = ![0, t.val % 22]
    ∧ win0_2.index t = ![0, t.val % 22] ∧ win0_3.index t = ![t.val / 22, t.val % 22] :=
  (by decide +kernel : ∀ t : Fin grid0.N, _)

/-- One tile: what a grid point stores is `gated` at the place of the tile. -/
theorem point (c : Dev nD) (t : Fin cfg0.N) (y) : k0_pay1 (iblk m c 0 t) (iblk m c 1 t) (iblk m c 2 t) y
    = gated (m ((c : Thread nD τ).loc main_arg0)) (m ((c : Thread nD τ).loc main_arg1)) (m ((c : Thread nD τ).loc main_arg2))
        (((cfg0.win 3).blk t).view.emb y) := by
  pointwise [k0_pay1, gated]
  blk_point [iblk, V, idx t]

/-- The tiles fill the result: it ends holding `gated` of the arguments. -/
theorem final (c : Dev nD) : (dats m 0 c).arrAt 3 (cfgs 0).N
    = gated (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel2Ideal.Swiglu

namespace Cert.Reference2Ideal.Swiglu

open Cert.Reference2Ideal Cert.Reference2Ideal.Gen Cert.Reference2Ideal.Read Idealize.ShloMosaic

/-- The reference's result is the same function of its arguments. -/
theorem reference (h : FVec Ideal S16384x4096 .bf16) (w1 w3 : FVec Ideal S4096x11264 .bf16) :
    val_main_v4 (F := Ideal) h w1 w3 = Cert.Kernel2Ideal.Swiglu.gated h w1 w3 := by
  funext j
  pointwise [val_main_v4, val_main_v3, val_main_v2, val_main_v1, val_main_v0, val_main_call0_v0, val_main_call0_v1,
    val_main_call0_v2, val_main_call0_v3, val_main_call0_v4, val_main_call0_v5, val_main_call0_cst, val_main_call0_cst_0,
    Cert.Kernel2Ideal.Swiglu.gated]
  rfl

end Cert.Reference2Ideal.Swiglu

/-- Kernel and reference leave the same result. -/
theorem Cert.Kernel2Ideal.Swiglu.algebraic : Cert.algebraic_Kernel2Ideal_Reference2Ideal := by
  pair_intro
  · run_from Cert.Kernel2Ideal.Gen.run_main m g
  · run_from Cert.Reference2Ideal.Value.run m' g'
    exact (Cert.Reference2Ideal.Read.val_main_v4_eq _ _ _).trans
      ((Cert.Reference2Ideal.Swiglu.reference _ _ _).trans (Cert.Kernel2Ideal.Swiglu.final m c).symm)

end
-- ==== Proof.FfnDown.lean ====
/-
  The down projection of the feed-forward layer: `x + u @ w2`.

  The kernel walks the 11264 terms of every product in four steps of 2816, adding each step's part to an accumulator
  of 1024 by 1024; at the fourth step it adds the tile of `x` and stores. The four parts are one sum over the 11264
  terms, so every tile is the tile of one function `projected` of the three arrays, and the tiles fill the result.
-/
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.Kernel3Ideal.FfnDown

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def projected (u : FVec Ideal S16384x11264 .bf16) (w : FVec Ideal S11264x4096 .bf16) (x : FVec Ideal S16384x4096 .f32) :
    FVec Ideal S16384x4096 .f32 :=
  fun j => (x (ix2 (j 0) (j 1)) : EReal) + ∑ k : Fin 11264, u (ix2 (j 0) k) * w (ix2 k (j 1))

/-- Which block of each array a grid point works on. -/
theorem idx : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 16, t.val / 4 % 4] :=
  (by decide +kernel : ∀ t : Fin grid0.N, _)

/-- The first step's part is what the accumulator starts with. -/
theorem first (a : FVec Ideal S1024x2816 .bf16) (b : FVec Ideal S2816x1024 .bf16) (j : S1024x1024.Idx) :
    k0_pay2 (F := Ideal) a b j = (0 : EReal) + ∑ k : Fin 2816, a (ix2 (j 0) k) * b (ix2 k (j 1)) := by
  idx_vars j
  pointwise [k0_pay2, k0_pay1]

/-- A later step adds its part. -/
theorem later (a : FVec Ideal S1024x2816 .bf16) (b : FVec Ideal S2816x1024 .bf16) (z : FVec Ideal S1024x1024 .f32)
    (j : S1024x1024.Idx) :
    k0_pay3 (F := Ideal) a b z j = (z j : EReal) + ∑ k : Fin 2816, a (ix2 (j 0) k) * b (ix2 k (j 1)) := by
  idx_vars j
  pointwise [k0_pay3, k0_pay1]

/-- At the last step the tile of `x` is added to the accumulator. -/
theorem stored (c : Dev nD) (t : Fin cfg0.N) (h : t.val % 4 = 3) (j : S1024x1024.Idx) :
    (outsAt0 m c t.val t.isLt).1 j
      = (show FVec Ideal S1024x1024 .f32 from iblk m c 2 t) j + (outsAt0 m c t.val t.isLt).2 j := by
  rw [outsAt0_C m c t (by omega) (by omega) h]
  frame_out
  pointwise [k0_pay4]

/-- The accumulator at the last step holds the four parts. -/
theorem accumulated (c : Dev nD) (t : Fin cfg0.N) (h : t.val % 4 = 3) (j : S1024x1024.Idx) :
    (outsAt0 m c t.val t.isLt).2 j = ∑ s : Fin 4, ∑ k : Fin 2816,
      (show FVec Ideal S1024x2816 .bf16 from iblk m c 0 ⟨4 * (t.val / 4) + s.val, Pipeline.run_point_lt_of_flush t h s⟩) (ix2 (j 0) k)
        * (show FVec Ideal S2816x1024 .bf16 from iblk m c 1 ⟨4 * (t.val / 4) + s.val, Pipeline.run_point_lt_of_flush t h s⟩) (ix2 k (j 1)) := by
  rw [Pipeline.eq_sum_fin_of_reset_step_apply_of_flush (M := EReal) (fun n h => (outsAt0 m c n h).2) 4 (fun _ => 0)
    (fun p j => ∑ k : Fin 2816, (show FVec Ideal S1024x2816 .bf16 from iblk m c 0 p) (ix2 (j 0) k)
      * (show FVec Ideal S2816x1024 .bf16 from iblk m c 1 p) (ix2 k (j 1)))
    (fun t h j => by rw [outsAt0_A m c t h (by omega) (by omega)]; frame_out; rw [first])
    (fun t h j => by
      by_cases h3 : t.val % 4 = 3
      · rw [outsAt0_C m c t h (by omega) h3]; frame_out; rw [later]; exact congrArg₂ (· + ·) (congrFun (Memref.IsWhole.read_unread _ _) j) rfl
      · rw [outsAt0_B m c t h (by omega) h3]; frame_out; rw [later]; exact congrArg₂ (· + ·) (congrFun (Memref.IsWhole.read_unread _ _) j) rfl)
    t h j, zero_add]

/-- The tiles fill the result: it ends holding `projected` of the arguments. -/
theorem final (c : Dev nD) : (dats m 0 c).arrAt 3 (cfgs 0).N
    = projected (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, stored m c t h, accumulated m c t h]
  pointwise [projected]
  refine Ideal.add_congr ?_ ?_
  · blk_point [iblk, V, idx t]
  · refine Fin.sum_mul_add_congr fun s k hl => ?_
    blk_point [iblk, V, idx t, idx ⟨_, Pipeline.run_point_lt_of_flush t h s⟩]

end Cert.Kernel3Ideal.FfnDown

namespace Cert.Reference3Ideal.FfnDown

open Cert.Reference3Ideal Cert.Reference3Ideal.Gen Cert.Reference3Ideal.Read Idealize.ShloMosaic

/-- The reference's result is the same function of its arguments. -/
theorem reference (u : FVec Ideal S16384x11264 .bf16) (w : FVec Ideal S11264x4096 .bf16) (x : FVec Ideal S16384x4096 .f32) :
    val_main_v1 (F := Ideal) u w x = Cert.Kernel3Ideal.FfnDown.projected u w x := by
  funext j
  idx_vars j
  pointwise [val_main_v1, val_main_v0, Cert.Kernel3Ideal.FfnDown.projected]

end Cert.Reference3Ideal.FfnDown

/-- Kernel and reference leave the same result. -/
theorem Cert.Kernel3Ideal.FfnDown.algebraic : Cert.algebraic_Kernel3Ideal_Reference3Ideal := by
  pair_intro
  · run_from Cert.Kernel3Ideal.Gen.run_main m g
  · run_from Cert.Reference3Ideal.Value.run m' g'
    exact (Cert.Reference3Ideal.Read.val_main_v1_eq _ _ _).trans
      ((Cert.Reference3Ideal.FfnDown.reference _ _ _).trans (Cert.Kernel3Ideal.FfnDown.final m c).symm)

end
-- ==== Proof.EmbedGate.lean ====
/-
  The gated embedding term of the layer: `x + sigmoid (h @ w_gate) * (p @ w_proj)`.

  The kernel computes it in tiles of 1024 rows by 512 columns, each from whole rows of `h` and `p` and whole columns of
  the two weights. Every tile is the tile of one function `gated` of the five arrays, and the tiles fill the result.
-/
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.Kernel4Ideal.EmbedGate

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def gated (h : FVec Ideal S16384x4096 .bf16) (wg : FVec Ideal S4096x4096 .bf16) (x : FVec Ideal S16384x4096 .f32)
    (p : FVec Ideal S16384x256 .bf16) (wp : FVec Ideal S256x4096 .bf16) : FVec Ideal S16384x4096 .f32 :=
  fun j =>
    let a : EReal := ∑ k : Fin 4096, h (ix2 (j 0) k) * wg (ix2 k (j 1))
    let b : EReal := ∑ k : Fin 256, p (ix2 (j 0) k) * wp (ix2 k (j 1))
    (x (ix2 (j 0) (j 1)) : EReal) + Ideal.logistic a * b

/-- Which block of each array a grid point works on. -/
theorem idx : ∀ t : Fin cfg0.N, win0_0.index t = ![t.val / 8, 0] ∧ win0_1.index t = ![0, t.val % 8]
    ∧ win0_2.index t = ![t.val / 8, t.val % 8] ∧ win0_3.index t = ![t.val / 8, 0] ∧ win0_4.index t = ![0, t.val % 8]
    ∧ win0_5.index t = ![t.val / 8, t.val % 8] :=
  (by decide +kernel : ∀ t : Fin grid0.N, _)

/-- One tile: what a grid point stores is `gated` at the place of the tile. -/
theorem point (c : Dev nD) (t : Fin cfg0.N) (y) :
    k0_pay1 (iblk m c 0 t) (iblk m c 1 t) (iblk m c 2 t) (iblk m c 3 t) (iblk m c 4 t) y
    = gated (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  idx_vars y
  pointwise [k0_pay1, gated]
  blk_point [iblk, V, idx t]

/-- The tiles fill the result: it ends holding `gated` of the arguments. -/
theorem final (c : Dev nD) : (dats m 0 c).arrAt 5 (cfgs 0).N
    = gated (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.Kernel4Ideal.EmbedGate

namespace Cert.Reference4Ideal.EmbedGate

open Cert.Reference4Ideal Cert.Reference4Ideal.Gen Cert.Reference4Ideal.Read Idealize.ShloMosaic

/-- The reference's result is the same function of its arguments. -/
theorem reference (h : FVec Ideal S16384x4096 .bf16) (wg : FVec Ideal S4096x4096 .bf16) (x : FVec Ideal S16384x4096 .f32)
    (p : FVec Ideal S16384x256 .bf16) (wp : FVec Ideal S256x4096 .bf16) :
    val_main_v9 (F := Ideal) h wg x p wp = Cert.Kernel4Ideal.EmbedGate.gated h wg x p wp := by
  funext j
  idx_vars j
  rw [← val_main_v9_eq]
  pointwise [Cert.Kernel4Ideal.EmbedGate.gated]
  rfl

end Cert.Reference4Ideal.EmbedGate

/-- Kernel and reference leave the same result. -/
theorem Cert.Kernel4Ideal.EmbedGate.algebraic : Cert.algebraic_Kernel4Ideal_Reference4Ideal := by
  pair_intro
  · run_from Cert.Kernel4Ideal.Gen.run_main m g
  · run_from Cert.Reference4Ideal.Value.run m' g'
    exact (Cert.Reference4Ideal.Read.val_main_v9_eq _ _ _ _ _).trans
      ((Cert.Reference4Ideal.EmbedGate.reference _ _ _ _ _).trans (Cert.Kernel4Ideal.EmbedGate.final m c).symm)

end
-- ==== Proof.OutProj.lean ====
/-
  The output projection of a mixer: `x + mixed @ w_out`.

  The kernel computes it in tiles of 1024 rows by 512 columns, each from whole rows of `mixed` and whole columns of the
  weight. Every tile is the tile of one function `projected` of the three arrays, and the tiles fill the result.
-/
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Kernel5Ideal.OutProj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def projected (a : FVec Ideal S16384x4096 .bf16) (w : FVec Ideal S4096x4096 .bf16) (x : FVec Ideal S16384x4096 .f32) :
    FVec Ideal S16384x4096 .f32 :=
  fun j => (x (ix2 (j 0) (j 1)) : EReal) + ∑ k : Fin 4096, a (ix2 (j 0) k) * w (ix2 k (j 1))

/-- Which block of each array a grid point works on. -/
theorem idx : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

/-- One tile: what a grid point stores is `projected` at the place of the tile. -/
theorem point (c : Dev nD) (t : Fin cfg0.N) (y) : k0_pay1 (iblk m c 0 t) (iblk m c 1 t) (iblk m c 2 t) y
    = projected (m ((c : Thread nD τ).loc main_arg0)) (m ((c : Thread nD τ).loc main_arg1)) (m ((c : Thread nD τ).loc main_arg2))
        (((cfg0.win 3).blk t).view.emb y) := by
  idx_vars y
  pointwise [k0_pay1, projected]
  blk_point [iblk, V, idx t]

/-- The tiles fill the result: it ends holding `projected` of the arguments. -/
theorem final (c : Dev nD) : (dats m 0 c).arrAt 3 (cfgs 0).N
    = projected (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel5Ideal.OutProj

namespace Cert.Reference5Ideal.OutProj

open Cert.Reference5Ideal Cert.Reference5Ideal.Gen Cert.Reference5Ideal.Read Idealize.ShloMosaic

/-- The reference's result is the same function of its arguments. -/
theorem reference (a : FVec Ideal S16384x4096 .bf16) (w : FVec Ideal S4096x4096 .bf16) (x : FVec Ideal S16384x4096 .f32) :
    val_main_v1 (F := Ideal) a w x = Cert.Kernel5Ideal.OutProj.projected a w x := by
  funext j
  idx_vars j
  pointwise [val_main_v1, val_main_v0, Cert.Kernel5Ideal.OutProj.projected]

end Cert.Reference5Ideal.OutProj

/-- Kernel and reference leave the same result. -/
theorem Cert.Kernel5Ideal.OutProj.algebraic : Cert.algebraic_Kernel5Ideal_Reference5Ideal := by
  pair_intro
  · run_from Cert.Kernel5Ideal.Gen.run_main m g
  · run_from Cert.Reference5Ideal.Value.run m' g'
    exact (Cert.Reference5Ideal.Read.val_main_v1_eq _ _ _).trans
      ((Cert.Reference5Ideal.OutProj.reference _ _ _).trans (Cert.Kernel5Ideal.OutProj.final m c).symm)

end
-- ==== Proof.HeadNorm.lean ====
/-
  A head of 128 numbers divided by its root mean square and multiplied by a gain: the part that the projections of
  queries and keys share.
-/
module

public import Idealize.ShloMosaic.Lib.Pipeline.ValueKit
public import Idealize.ShloMosaic.PureOps.Ideal.Laws

@[expose] public section

noncomputable section

namespace Cert.HeadNorm

open Idealize.ShloMosaic

/-- A number `own` of a head `x`, over the root of the mean square of the head, times the gain `g`. The mean's divisor
    is the word of 128, the number added to it the word nearest to a millionth. -/
def normed (own : EReal) (x : Fin 128 → EReal) (g : EReal) : EReal :=
  own * Ideal.rsqrt (Ideal.div (∑ k, x k * x k) (Ideal.ofBits FTy.f32 1124073472#32) + Ideal.ofBits FTy.f32 897988541#32) * g

/-- Column `d` of the head that column `e` belongs to, among 24 heads of 128 columns. -/
def mate (e : Fin 3072) (d : Fin 128) : Fin 3072 := ⟨e.val / 128 * 128 + d.val, by omega⟩

/-- A column's place in its head. -/
def place (e : Fin 3072) : Fin 128 := ⟨e.val % 128, by omega⟩

end Cert.HeadNorm

end
-- ==== Proof.FoxQProj.lean ====
/-
  The queries of the gated attention: `h @ w_q`, each head normed, times its gain and the attention's scale.

  The kernel computes tiles of 1024 rows by four heads of 128 columns, each from whole rows of the input and whole
  columns of the weight, and norms the four heads one by one before it lays them side by side. Every tile is the tile of
  one function `heads` of the arrays, and the tiles fill the result.
-/
module

public import proofs.«01_k».proof.Defs
public import proofs.«01_k».proof.Proof.HeadNorm
public import proofs.«01_k».proof.Proof.Gen.Kernel6Ideal.Value
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.Kernel6Ideal.FoxQProj

open Cert.Kernel6Ideal Cert.Kernel6Ideal.Gen Cert.Kernel6Ideal.Value Cert.HeadNorm
open Idealize.ShloMosaic Idealize.ShloMosaic.TcCoe Idealize.SL.Sem
open Idealize.ShloMosaic.Pipeline (Dat)

variable (m : (ℓ : Loc nD τ sig) → Buf (Elt Ideal) ℓ)

/-- The result element by element, over whole arrays: the product, normed over its head and scaled. -/
def heads (a : FVec Ideal S16384x4096 .bf16) (w : FVec Ideal S4096x3072 .bf16) (g : FVec Ideal S128 .f32) :
    FVec Ideal S16384x3072 .bf16 := fun j =>
  (normed (∑ k : Fin 4096, a (ix2 (j 0) k) * w (ix2 k (j 1)))
    (fun d => ∑ k : Fin 4096, a (ix2 (j 0) k) * w (ix2 k (mate (j 1) d))) (g (ix1 (place (j 1)))) * Ideal.ofBits FTy.f32 1040356334#32 : EReal)

/-- The gains of a tile's four heads. -/
def gains (p0 p1 p2 p3 : FVec Ideal S1x128 .f32) : Fin 4 → FVec Ideal S1x128 .f32 := ![p0, p1, p2, p3]

/-- The `n`-th head of a tile. -/
theorem head (x : FVec Ideal S1024x4096 .bf16) (w : FVec Ideal S4096x512 .bf16) (p0 p1 p2 p3 : FVec Ideal S1x128 .f32)
    (n : Fin 4) (r : Fin 1024) (d : Fin 128) :
    Cat3_0 (F := Ideal) x w p0 p1 p2 p3 n (ix2 r d)
      = (normed (∑ k : Fin 4096, x (ix2 r k) * w (ix2 k ⟨n.val * 128 + d.val, by omega⟩) : EReal)
          (fun d' => (∑ k : Fin 4096, x (ix2 r k) * w (ix2 k ⟨n.val * 128 + d'.val, by omega⟩) : EReal))
          (gains p0 p1 p2 p3 n (ix2 0 d) : EReal) * Ideal.ofBits FTy.f32 1040356334#32 : EReal) := by
  match n with
  | 0 => pointwise [Cat3_0, k0_pay2, normed, gains]
  | 1 => pointwise [Cat3_0, k0_pay2, normed, gains]
  | 2 => pointwise [Cat3_0, k0_pay2, normed, gains]
  | 3 => pointwise [Cat3_0, k0_pay2, normed, gains]

/-- The `n`-th head's gains are those of its 128 columns. -/
theorem gains_apply (v : FVec Ideal S1x512 .f32) (n : Fin 4) (d : Fin 128) (e : Fin 512) (he : e.val = n.val * 128 + d.val) :
    gains (View.ld (Val := Elt Ideal) (e' := .f32) v r0_2) (View.ld (Val := Elt Ideal) (e' := .f32) v r0_3)
      (View.ld (Val := Elt Ideal) (e' := .f32) v r0_4) (View.ld (Val := Elt Ideal) (e' := .f32) v r0_5) n (ix2 0 d) = v (ix2 0 e) := by
  match n with
  | 0 => exact congrArg v (funext fun a => Fin.ext (by
      match a with
      | ⟨0, _⟩ => rfl
      | ⟨1, _⟩ => show 0 + 1 * d.val = e.val; rw [he]; show 0 + 1 * d.val = 0 * 128 + d.val; omega))
  | 1 => exact congrArg v (funext fun a => Fin.ext (by
      match a with
      | ⟨0, _⟩ => rfl
      | ⟨1, _⟩ => show 128 + 1 * d.val = e.val; rw [he]; show 128 + 1 * d.val = 1 * 128 + d.val; omega))
  | 2 => exact congrArg v (funext fun a => Fin.ext (by
      match a with
      | ⟨0, _⟩ => rfl
      | ⟨1, _⟩ => show 256 + 1 * d.val = e.val; rw [he]; show 256 + 1 * d.val = 2 * 128 + d.val; omega))
  | 3 => exact congrArg v (funext fun a => Fin.ext (by
      match a with
      | ⟨0, _⟩ => rfl
      | ⟨1, _⟩ => show 384 + 1 * d.val = e.val; rw [he]; show 384 + 1 * d.val = 3 * 128 + d.val; omega))

/-- A tile's element lies in the head of its column. -/
theorem cut (x : FVec Ideal S1024x4096 .bf16) (w : FVec Ideal S4096x512 .bf16) (p0 p1 p2 p3 : FVec Ideal S1x128 .f32)
    (y : S1024x512.Idx) : E3 (F := Ideal) x w p0 p1 p2 p3 y
      = Cat3_0 (F := Ideal) x w p0 p1 p2 p3 (csel3_0 y) (ix3_0 y) := rfl

/-- A tile, element by element, from its rows, its columns and its gains. -/
theorem tile (x : FVec Ideal S1024x4096 .bf16) (w : FVec Ideal S4096x512 .bf16) (v : FVec Ideal S1x512 .f32)
    (r : Fin 1024) (e : Fin 512) : out0_3 (F := Ideal) x w v (ix2 r e)
      = (normed (∑ k : Fin 4096, x (ix2 r k) * w (ix2 k e) : EReal)
          (fun d => (∑ k : Fin 4096, x (ix2 r k) * w (ix2 k ⟨e.val / 128 * 128 + d.val, by omega⟩) : EReal))
          (v (ix2 0 e) : EReal) * Ideal.ofBits FTy.f32 1040356334#32 : EReal) := by
  have h0 : View.ld (Val := Elt Ideal) (e' := .bf16) x r0_0 = x := View.ld_unit_lit (Val := Elt Ideal) (e := .bf16) (S := S1024x4096) (off := ![0, 0]) _ x (by decide)
  have h1 : View.ld (Val := Elt Ideal) (e' := .bf16) w r0_1 = w := View.ld_unit_lit (Val := Elt Ideal) (e := .bf16) (S := S4096x512) (off := ![0, 0]) _ w (by decide)
  unfold out0_3
  rw [canon3_eq, h0, h1]
  obtain ⟨n, d, he⟩ : ∃ (n : Fin 4) (d : Fin 128), e.val = n.val * 128 + d.val :=
    ⟨⟨e.val / 128, by omega⟩, ⟨e.val % 128, by omega⟩, by dsimp only; omega⟩
  have hn : csel3_0 (ix2 r e) = n := Fin.ext (by show e.val / 128 = n.val; omega)
  have hd : ix3_0 (ix2 r e) = ix2 r d := funext fun a => Fin.ext (by
    match a with
    | ⟨0, _⟩ => rfl
    | ⟨1, _⟩ => show e.val % 128 = d.val; omega)
  rw [cut, hn, hd, head, gains_apply v n d e he]
  have e1 : (⟨n.val * 128 + d.val, by omega⟩ : Fin 512) = e := Fin.ext he.symm
  have e2 : ∀ d' : Fin 128, (⟨n.val * 128 + d'.val, by omega⟩ : Fin 512) = ⟨e.val / 128 * 128 + d'.val, by omega⟩ :=
    fun d' => Fin.ext (by dsimp only; omega)
  simp only [e1, e2]

/-- The host repeats the gains for the 24 heads. -/
theorem host_gain (c : Dev nD) : V m c main_v3
    = shapeCast S1x3072 (shapeCast S3072 (broadcastInDim S24x128 ![0, 1] bcast_S1x128_S24x128_0_1
        (shapeCast S1x128 (m ((c : Thread nD τ).loc main_arg2)) shapeCasts_S128_S1x128)) shapeCasts_S24x128_S3072)
      shapeCasts_S3072_S1x3072 := by
  simp only [V, List.flatten_cons, List.flatten_nil, List.append_nil]
  after_results
  rfl

/-- So a column's gain is the one of its place in its head. -/
theorem gain (c : Dev nD) (e : Fin 3072) :
    V m c main_v3 (ix2 0 e) = m ((c : Thread nD τ).loc main_arg2) (ix1 (place e)) := by
  rw [host_gain]
  pointwise [place]

/-- Which block of each array a grid point works on. -/
theorem idx : ∀ t : Fin cfg0.N, win0_0.index t = ![t.val / 6, 0] ∧ win0_1.index t = ![0, t.val % 6]
    ∧ win0_2.index t = ![0, t.val % 6] ∧ win0_3.index t = ![t.val / 6, t.val % 6] :=
  (by decide +kernel : ∀ t : Fin grid0.N, _)

/-- Row `r` of a grid point's block of rows. -/
def row (t : Fin cfg0.N) (r : Fin 1024) : Fin 16384 :=
  ⟨t.val / 6 * 1024 + r.val, by have := t.isLt; have : cfg0.N = 96 := N_0; omega⟩

/-- Column `e` of a grid point's block of columns. -/
def col (t : Fin cfg0.N) (e : Fin 512) : Fin 3072 := ⟨t.val % 6 * 512 + e.val, by omega⟩

/-- A block of the input's rows. -/
theorem read_0 (c : Dev nD) (t : Fin cfg0.N) (r : Fin 1024) (k : Fin 4096) :
    iblk m c 0 t (ix2 r k) = m ((c : Thread nD τ).loc main_arg0) (ix2 (row t r) k) := by
  blk_point [iblk, V, idx t]
  all_goals simp only [row]

/-- A block of the weight's columns. -/
theorem read_1 (c : Dev nD) (t : Fin cfg0.N) (k : Fin 4096) (e : Fin 512) :
    iblk m c 1 t (ix2 k e) = m ((c : Thread nD τ).loc main_arg1) (ix2 k (col t e)) := by
  blk_point [iblk, V, idx t]
  all_goals simp only [col]

/-- A block of the gains. -/
theorem read_2 (c : Dev nD) (t : Fin cfg0.N) (e : Fin 512) :
    iblk m c 2 t (ix2 0 e) = m ((c : Thread nD τ).loc main_arg2) (ix1 (place (col t e))) := by
  refine Eq.trans ?_ (gain m c (col t e))
  blk_point [iblk, idx t]
  all_goals simp only [col]

/-- One tile: what a grid point stores is `heads` at the place of the tile. -/
theorem point (c : Dev nD) (t : Fin cfg0.N) (r : Fin 1024) (e : Fin 512) :
    out0_3 (iblk m c 0 t) (iblk m c 1 t) (iblk m c 2 t) (ix2 r e)
      = heads (m ((c : Thread nD τ).loc main_arg0)) (m ((c : Thread nD τ).loc main_arg1))
          (m ((c : Thread nD τ).loc main_arg2)) (ix2 (row t r) (col t e)) := by
  have hm : ∀ d : Fin 128, col t ⟨e.val / 128 * 128 + d.val, by omega⟩ = mate (col t e) d :=
    fun d => Fin.ext (by simp only [col, mate]; omega)
  refine (tile _ _ _ r e).trans ?_
  simp only [read_0, read_1, read_2, hm]
  rfl

/-- The tiles fill the result: it ends holding `heads` of the arguments. -/
theorem final (c : Dev nD) : (dats m 0 c).arrAt 3 (cfgs 0).N
    = heads (m ((c : Thread nD τ).loc main_arg0)) (m ((c : Thread nD τ).loc main_arg1)) (m ((c : Thread nD τ).loc main_arg2)) := by
  refine (dats m 0 c).arrAt_eq_of_covers 3 _ (by decide +kernel) fun t _ y => ?_
  idx_vars y
  blk_simp
  rw [after0_3]
  refine (point m c t y0 y1).trans (congrArg (heads _ _ _) ?_)
  blk_ext [idx t]
  all_goals simp only [row, col]

end Cert.Kernel6Ideal.FoxQProj

namespace Cert.Reference6Ideal.FoxQProj

open Cert.Reference6Ideal Cert.Reference6Ideal.Gen Cert.Reference6Ideal.Read Cert.HeadNorm Idealize.ShloMosaic

/-- The reference's result is the same function of its arguments. -/
theorem reference (a : FVec Ideal S16384x4096 .bf16) (w : FVec Ideal S4096x3072 .bf16) (g : FVec Ideal S128 .f32) :
    val_main_v18 (F := Ideal) a w g = Cert.Kernel6Ideal.FoxQProj.heads a w g := by
  funext j
  idx_vars j
  pointwise [val_main_v18, val_main_v17, val_main_v16, val_main_v15, val_main_cst_2, val_main_v14, val_main_v13,
    val_main_v12, val_main_v11, val_main_v10, val_main_v9, val_main_v8, val_main_v7, val_main_cst_1,
    val_main_v6, val_main_v5, val_main_cst_0, val_main_v4, val_main_v3, val_main_cst, val_main_v2,
    val_main_v1, val_main_v0,
    Cert.Kernel6Ideal.FoxQProj.heads, normed, mate, place]

end Cert.Reference6Ideal.FoxQProj

namespace Cert.Kernel6Ideal.FoxQProj

open Idealize.ShloMosaic Idealize.ShloMosaic.TcCoe Idealize.SL.Sem Cert.Kernel6Ideal.Gen

/-- Kernel and reference leave the same result. -/
theorem algebraic : Cert.algebraic_Kernel6Ideal_Reference6Ideal := by
  intro m g m' g' _ hagree
  refine ⟨fun c => (dats m 0 c).arrAt 3 (cfgs 0).N, ?_, ?_⟩
  · exact Cert.Kernel6Ideal.Value.run_blocks m g
  · refine (θ_run Cert.Reference6Ideal.defs _ _).mono (fun r h c => ⟨(h c).1.trans ?_, (h c).2⟩)
      (Cert.Reference6Ideal.Value.run m' g')
    obtain ⟨e0, e1, e2⟩ := hagree c
    refine (Cert.Reference6Ideal.Read.val_main_v18_eq _ _ _).trans ?_
    rw [e0, e1, e2]
    exact (Cert.Reference6Ideal.FoxQProj.reference _ _ _).trans (final m c).symm

end Cert.Kernel6Ideal.FoxQProj

end
-- ==== Proof.FoxKProj.lean ====
/-
  The keys of the gated attention: `h @ w_k`, each head normed, times its gain.

  The kernel computes tiles of 1024 rows by four heads of 128 columns, each from whole rows of the input and whole
  columns of the weight, and norms the four heads one by one before it lays them side by side. Every tile is the tile of
  one function `heads` of the arrays, and the tiles fill the result.
-/
module

public import proofs.«01_k».proof.Defs
public import proofs.«01_k».proof.Proof.HeadNorm
public import proofs.«01_k».proof.Proof.Gen.Kernel7Ideal.Value
public import proofs.«01_k».proof.Proof.Gen.Reference7Ideal.Read
public import Idealize.ShloMosaic.Lib.Pipeline.ValueKit
public import Idealize.ShloMosaic.Lib.Claim

@[expose] public section

set_option maxRecDepth 16384

noncomputable section

namespace Cert.Kernel7Ideal.FoxKProj

open Cert.Kernel7Ideal Cert.Kernel7Ideal.Gen Cert.HeadNorm
open Idealize.ShloMosaic Idealize.ShloMosaic.TcCoe Idealize.SL.Sem
open Idealize.ShloMosaic.Pipeline (Dat)

variable (m : (ℓ : Loc nD τ sig) → Buf (Elt Ideal) ℓ)

/-- The result element by element, over whole arrays: the product, normed over its head. -/
def heads (a : FVec Ideal S16384x4096 .bf16) (w : FVec Ideal S4096x3072 .bf16) (g : FVec Ideal S128 .f32) :
    FVec Ideal S16384x3072 .bf16 := fun j =>
  (normed (∑ k : Fin 4096, a (ix2 (j 0) k) * w (ix2 k (j 1)))
    (fun d => ∑ k : Fin 4096, a (ix2 (j 0) k) * w (ix2 k (mate (j 1) d))) (g (ix1 (place (j 1)))) : EReal)

/-- The gains of a tile's four heads. -/
def gains (p0 p1 p2 p3 : FVec Ideal S1x128 .f32) : Fin 4 → FVec Ideal S1x128 .f32 := ![p0, p1, p2, p3]

/-- The `n`-th head of a tile. -/
theorem head (x : FVec Ideal S1024x4096 .bf16) (w : FVec Ideal S4096x512 .bf16) (p0 p1 p2 p3 : FVec Ideal S1x128 .f32)
    (n : Fin 4) (r : Fin 1024) (d : Fin 128) :
    k0_pay1 (F := Ideal) (k0_pay2 x w) (k0_pay3 x w p0) (k0_pay4 x w p1) (k0_pay5 x w) (k0_pay6 x w)
        (Scalar.ofBits .f32 0x358637BD#32) p2 p3 (ix2 r ⟨n.val * 128 + d.val, by omega⟩)
      = (normed (∑ k : Fin 4096, x (ix2 r k) * w (ix2 k ⟨n.val * 128 + d.val, by omega⟩) : EReal)
          (fun d' => (∑ k : Fin 4096, x (ix2 r k) * w (ix2 k ⟨n.val * 128 + d'.val, by omega⟩) : EReal))
          (gains p0 p1 p2 p3 n (ix2 0 d) : EReal) : EReal) := by
  match n with
  | 0 => pointwise [k0_pay1, k0_pay2, k0_pay3, k0_pay4, k0_pay5, k0_pay6, normed, gains]
  | 1 =>
    pointwise [k0_pay1, k0_pay2, k0_pay3, k0_pay4, k0_pay5, k0_pay6, normed, gains]
  | 2 =>
    pointwise [k0_pay1, k0_pay2, k0_pay3, k0_pay4, k0_pay5, k0_pay6, normed, gains]
    rw [dif_neg (by omega), dif_neg (by omega), dif_pos (by omega)]
    simp only [show 256 + d.val - 128 - 128 = d.val by omega, Fin.eta]
  | 3 =>
    pointwise [k0_pay1, k0_pay2, k0_pay3, k0_pay4, k0_pay5, k0_pay6, normed, gains]
    rw [dif_neg (by omega), dif_neg (by omega), dif_neg (by omega)]
    simp only [show 384 + d.val - 128 - 128 - 128 = d.val by omega, Fin.eta]

/-- The `n`-th head's gains are those of its 128 columns. -/
theorem gains_apply (v : FVec Ideal S1x512 .f32) (n : Fin 4) (d : Fin 128) (e : Fin 512) (he : e.val = n.val * 128 + d.val) :
    gains (View.ld (Val := Elt Ideal) (e' := .f32) v r0_2) (View.ld (Val := Elt Ideal) (e' := .f32) v r0_3)
      (View.ld (Val := Elt Ideal) (e' := .f32) v r0_4) (View.ld (Val := Elt Ideal) (e' := .f32) v r0_5) n (ix2 0 d) = v (ix2 0 e) := by
  match n with
  | 0 => exact congrArg v (funext fun a => Fin.ext (by
      match a with
      | ⟨0, _⟩ => rfl
      | ⟨1, _⟩ => show 0 + 1 * d.val = e.val; rw [he]; show 0 + 1 * d.val = 0 * 128 + d.val; omega))
  | 1 => exact congrArg v (funext fun a => Fin.ext (by
      match a with
      | ⟨0, _⟩ => rfl
      | ⟨1, _⟩ => show 128 + 1 * d.val = e.val; rw [he]; show 128 + 1 * d.val = 1 * 128 + d.val; omega))
  | 2 => exact congrArg v (funext fun a => Fin.ext (by
      match a with
      | ⟨0, _⟩ => rfl
      | ⟨1, _⟩ => show 256 + 1 * d.val = e.val; rw [he]; show 256 + 1 * d.val = 2 * 128 + d.val; omega))
  | 3 => exact congrArg v (funext fun a => Fin.ext (by
      match a with
      | ⟨0, _⟩ => rfl
      | ⟨1, _⟩ => show 384 + 1 * d.val = e.val; rw [he]; show 384 + 1 * d.val = 3 * 128 + d.val; omega))

/-- A tile, element by element, from its rows, its columns and its gains. -/
theorem tile (x : FVec Ideal S1024x4096 .bf16) (w : FVec Ideal S4096x512 .bf16) (v : FVec Ideal S1x512 .f32)
    (r : Fin 1024) (e : Fin 512) : out0_3 (F := Ideal) x w v (ix2 r e)
      = (normed (∑ k : Fin 4096, x (ix2 r k) * w (ix2 k e) : EReal)
          (fun d => (∑ k : Fin 4096, x (ix2 r k) * w (ix2 k ⟨e.val / 128 * 128 + d.val, by omega⟩) : EReal))
          (v (ix2 0 e) : EReal) : EReal) := by
  obtain ⟨n, d, rfl⟩ : ∃ (n : Fin 4) (d : Fin 128), e = ⟨n.val * 128 + d.val, by omega⟩ :=
    ⟨⟨e.val / 128, by omega⟩, ⟨e.val % 128, by omega⟩, Fin.ext (by dsimp only; omega)⟩
  have e2 : ∀ d' : Fin 128, (⟨(n.val * 128 + d.val) / 128 * 128 + d'.val, by omega⟩ : Fin 512)
      = ⟨n.val * 128 + d'.val, by omega⟩ := fun d' => Fin.ext (by dsimp only; omega)
  simp only [e2]
  frame_out
  refine (head x w _ _ _ _ n r d).trans ?_
  rw [gains_apply v n d ⟨n.val * 128 + d.val, by omega⟩ rfl]

/-- The host repeats the gains for the 24 heads. -/
theorem host_gain (c : Dev nD) : V m c main_v3
    = shapeCast S1x3072 (shapeCast S3072 (broadcastInDim S24x128 ![0, 1] bcast_S1x128_S24x128_0_1
        (shapeCast S1x128 (m ((c : Thread nD τ).loc main_arg2)) shapeCasts_S128_S1x128)) shapeCasts_S24x128_S3072)
      shapeCasts_S3072_S1x3072 := by
  simp only [V, List.flatten_cons, List.flatten_nil, List.append_nil]
  after_results
  rfl

/-- So a column's gain is the one of its place in its head. -/
theorem gain (c : Dev nD) (e : Fin 3072) :
    V m c main_v3 (ix2 0 e) = m ((c : Thread nD τ).loc main_arg2) (ix1 (place e)) := by
  rw [host_gain]
  pointwise [place]

/-- Which block of each array a grid point works on. -/
theorem idx : ∀ t : Fin cfg0.N, win0_0.index t = ![t.val / 6, 0] ∧ win0_1.index t = ![0, t.val % 6]
    ∧ win0_2.index t = ![0, t.val % 6] ∧ win0_3.index t = ![t.val / 6, t.val % 6] :=
  (by decide +kernel : ∀ t : Fin grid0.N, _)

/-- Row `r` of a grid point's block of rows. -/
def row (t : Fin cfg0.N) (r : Fin 1024) : Fin 16384 :=
  ⟨t.val / 6 * 1024 + r.val, by have := t.isLt; have : cfg0.N = 96 := N_0; omega⟩

/-- Column `e` of a grid point's block of columns. -/
def col (t : Fin cfg0.N) (e : Fin 512) : Fin 3072 := ⟨t.val % 6 * 512 + e.val, by omega⟩

/-- A block of the input's rows. -/
theorem read_0 (c : Dev nD) (t : Fin cfg0.N) (r : Fin 1024) (k : Fin 4096) :
    iblk m c 0 t (ix2 r k) = m ((c : Thread nD τ).loc main_arg0) (ix2 (row t r) k) := by
  blk_point [iblk, V, idx t]
  all_goals simp only [row]

/-- A block of the weight's columns. -/
theorem read_1 (c : Dev nD) (t : Fin cfg0.N) (k : Fin 4096) (e : Fin 512) :
    iblk m c 1 t (ix2 k e) = m ((c : Thread nD τ).loc main_arg1) (ix2 k (col t e)) := by
  blk_point [iblk, V, idx t]
  all_goals simp only [col]

/-- A block of the gains. -/
theorem read_2 (c : Dev nD) (t : Fin cfg0.N) (e : Fin 512) :
    iblk m c 2 t (ix2 0 e) = m ((c : Thread nD τ).loc main_arg2) (ix1 (place (col t e))) := by
  refine Eq.trans ?_ (gain m c (col t e))
  blk_point [iblk, idx t]
  all_goals simp only [col]

/-- One tile: what a grid point stores is `heads` at the place of the tile. -/
theorem point (c : Dev nD) (t : Fin cfg0.N) (r : Fin 1024) (e : Fin 512) :
    out0_3 (iblk m c 0 t) (iblk m c 1 t) (iblk m c 2 t) (ix2 r e)
      = heads (m ((c : Thread nD τ).loc main_arg0)) (m ((c : Thread nD τ).loc main_arg1))
          (m ((c : Thread nD τ).loc main_arg2)) (ix2 (row t r) (col t e)) := by
  have hm : ∀ d : Fin 128, col t ⟨e.val / 128 * 128 + d.val, by omega⟩ = mate (col t e) d :=
    fun d => Fin.ext (by simp only [col, mate]; omega)
  refine (tile _ _ _ r e).trans ?_
  simp only [read_0, read_1, read_2, hm]
  rfl

/-- The tiles fill the result: it ends holding `heads` of the arguments. -/
theorem final (c : Dev nD) : (dats m 0 c).arrAt 3 (cfgs 0).N
    = heads (m ((c : Thread nD τ).loc main_arg0)) (m ((c : Thread nD τ).loc main_arg1)) (m ((c : Thread nD τ).loc main_arg2)) := by
  refine (dats m 0 c).arrAt_eq_of_covers 3 _ (by decide +kernel) fun t _ y => ?_
  idx_vars y
  blk_simp
  rw [after0_3]
  refine (point m c t y0 y1).trans (congrArg (heads _ _ _) ?_)
  blk_ext [idx t]
  all_goals simp only [row, col]

end Cert.Kernel7Ideal.FoxKProj

namespace Cert.Reference7Ideal.FoxKProj

open Cert.Reference7Ideal Cert.Reference7Ideal.Gen Cert.Reference7Ideal.Read Cert.HeadNorm Idealize.ShloMosaic

/-- The reference's result is the same function of its arguments. -/
theorem reference (a : FVec Ideal S16384x4096 .bf16) (w : FVec Ideal S4096x3072 .bf16) (g : FVec Ideal S128 .f32) :
    val_main_v16 (F := Ideal) a w g = Cert.Kernel7Ideal.FoxKProj.heads a w g := by
  funext j
  idx_vars j
  pointwise [val_main_v16, val_main_v15, val_main_v14, val_main_v13, val_main_v12, val_main_v11, val_main_v10,
    val_main_v9, val_main_v8, val_main_v7, val_main_cst_1, val_main_v6, val_main_v5, val_main_cst_0,
    val_main_v4, val_main_v3, val_main_cst, val_main_v2, val_main_v1, val_main_v0,
    Cert.Kernel7Ideal.FoxKProj.heads, normed, mate, place]

end Cert.Reference7Ideal.FoxKProj

namespace Cert.Kernel7Ideal.FoxKProj

open Idealize.ShloMosaic Idealize.ShloMosaic.TcCoe Idealize.SL.Sem Cert.Kernel7Ideal.Gen

/-- Kernel and reference leave the same result. -/
theorem algebraic : Cert.algebraic_Kernel7Ideal_Reference7Ideal := by
  intro m g m' g' _ hagree
  refine ⟨fun c => (dats m 0 c).arrAt 3 (cfgs 0).N, ?_, ?_⟩
  · exact Cert.Kernel7Ideal.Value.run_blocks m g
  · refine (θ_run Cert.Reference7Ideal.defs _ _).mono (fun r h c => ⟨(h c).1.trans ?_, (h c).2⟩)
      (Cert.Reference7Ideal.Value.run m' g')
    obtain ⟨e0, e1, e2⟩ := hagree c
    refine (Cert.Reference7Ideal.Read.val_main_v16_eq _ _ _).trans ?_
    rw [e0, e1, e2]
    exact (Cert.Reference7Ideal.FoxKProj.reference _ _ _).trans (final m c).symm

end Cert.Kernel7Ideal.FoxKProj

end
-- ==== Proof.FoxVProj.lean ====
/-
  The values of the gated attention: `h @ w_v`.

  The kernel computes it in tiles of 1024 rows by 512 columns, each from whole rows of the input and whole columns of
  the weight. Every tile is the tile of one function `product` of the two arrays, and the tiles fill the result.
-/
module

public import proofs.«01_k».proof.Defs
public import proofs.«01_k».proof.Proof.Gen.Kernel8Ideal.Value
public import proofs.«01_k».proof.Proof.Gen.Reference8Ideal.Read
public import Idealize.ShloMosaic.Lib.Pipeline.ValueKit
public import Idealize.ShloMosaic.Lib.Claim

@[expose] public section

set_option maxRecDepth 16384

noncomputable section

namespace Cert.Kernel8Ideal.FoxVProj

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def product (a : FVec Ideal S16384x4096 .bf16) (w : FVec Ideal S4096x3072 .bf16) : FVec Ideal S16384x3072 .bf16 :=
  fun j => (∑ k : Fin 4096, a (ix2 (j 0) k) * w (ix2 k (j 1)) : EReal)

/-- Which block of each array a grid point works on. -/
theorem idx : ∀ t : Fin cfg0.N, win0_0.index t = ![t.val / 6, 0] ∧ win0_1.index t = ![0, t.val % 6]
    ∧ win0_2.index t = ![t.val / 6, t.val % 6] :=
  (by decide +kernel : ∀ t : Fin grid0.N, _)

/-- One tile: what a grid point stores is `product` at the place of the tile. -/
theorem point (c : Dev nD) (t : Fin cfg0.N) (y) : k0_pay1 (iblk m c 0 t) (iblk m c 1 t) y
    = product (m ((c : Thread nD τ).loc main_arg0)) (m ((c : Thread nD τ).loc main_arg1))
        (((cfg0.win 2).blk t).view.emb y) := by
  idx_vars y
  pointwise [k0_pay1, product]
  blk_point [iblk, V, idx t]

/-- The tiles fill the result: it ends holding `product` of the arguments. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.FoxVProj

namespace Cert.Reference8Ideal.FoxVProj

open Cert.Reference8Ideal Cert.Reference8Ideal.Gen Cert.Reference8Ideal.Read Idealize.ShloMosaic

/-- The reference's result is the same function of its arguments. -/
theorem reference (a : FVec Ideal S16384x4096 .bf16) (w : FVec Ideal S4096x3072 .bf16) :
    val_main_v1 (F := Ideal) a w = Cert.Kernel8Ideal.FoxVProj.product a w := by
  funext j
  idx_vars j
  pointwise [val_main_v1, val_main_v0, Cert.Kernel8Ideal.FoxVProj.product]

end Cert.Reference8Ideal.FoxVProj

/-- Kernel and reference leave the same result. -/
theorem Cert.Kernel8Ideal.FoxVProj.algebraic : Cert.algebraic_Kernel8Ideal_Reference8Ideal := by
  pair_intro
  · run_from Cert.Kernel8Ideal.Gen.run_main m g
  · run_from Cert.Reference8Ideal.Value.run m' g'
    exact (Cert.Reference8Ideal.Read.val_main_v1_eq _ _).trans
      ((Cert.Reference8Ideal.FoxVProj.reference _ _).trans (Cert.Kernel8Ideal.FoxVProj.final m c).symm)

end
-- ==== Proof.ConvProj.lean ====
/-
  The projection into the gated convolution: `h @ w_conv`.

  The kernel computes it in tiles of 1024 rows by 512 columns, each from whole rows of the input and whole columns of
  the weight. Every tile is the tile of one function `product` of the two arrays, and the tiles fill the result.
-/
module

public import proofs.«01_k».proof.Defs
public import proofs.«01_k».proof.Proof.Gen.Kernel9Ideal.Value
public import proofs.«01_k».proof.Proof.Gen.Reference9Ideal.Read
public import Idealize.ShloMosaic.Lib.Pipeline.ValueKit
public import Idealize.ShloMosaic.Lib.Claim

@[expose] public section

set_option maxRecDepth 16384

noncomputable section

namespace Cert.Kernel9Ideal.ConvProj

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def product (a : FVec Ideal S16384x4096 .bf16) (w : FVec Ideal S4096x6144 .bf16) : FVec Ideal S16384x6144 .f32 :=
  fun j => (∑ k : Fin 4096, a (ix2 (j 0) k) * w (ix2 k (j 1)) : EReal)

/-- Which block of each array a grid point works on. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

/-- One tile: what a grid point stores is `product` at the place of the tile. -/
theorem point (c : Dev nD) (t : Fin cfg0.N) (y) : k0_pay1 (iblk m c 0 t) (iblk m c 1 t) y
    = product (m ((c : Thread nD τ).loc main_arg0)) (m ((c : Thread nD τ).loc main_arg1))
        (((cfg0.win 2).blk t).view.emb y) := by
  idx_vars y
  pointwise [k0_pay1, product]
  blk_point [iblk, V, idx t]

/-- The tiles fill the result: it ends holding `product` of the arguments. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.ConvProj

namespace Cert.Reference9Ideal.ConvProj

open Cert.Reference9Ideal Cert.Reference9Ideal.Gen Cert.Reference9Ideal.Read Idealize.ShloMosaic

/-- The reference's result is the same function of its arguments. -/
theorem reference (a : FVec Ideal S16384x4096 .bf16) (w : FVec Ideal S4096x6144 .bf16) :
    val_main_v0 (F := Ideal) a w = Cert.Kernel9Ideal.ConvProj.product a w := by
  funext j
  idx_vars j
  pointwise [val_main_v0, Cert.Kernel9Ideal.ConvProj.product]

end Cert.Reference9Ideal.ConvProj

/-- Kernel and reference leave the same result. -/
theorem Cert.Kernel9Ideal.ConvProj.algebraic : Cert.algebraic_Kernel9Ideal_Reference9Ideal := by
  pair_intro
  · run_from Cert.Kernel9Ideal.Gen.run_main m g
  · run_from Cert.Reference9Ideal.Value.run m' g'
    exact (Cert.Reference9Ideal.Read.val_main_v0_eq _ _).trans
      ((Cert.Reference9Ideal.ConvProj.reference _ _).trans (Cert.Kernel9Ideal.ConvProj.final m c).symm)

end
-- ==== Proof.NsaVProj.lean ====
/-
  The values of the sparse attention: `h @ w_v`.

  The kernel computes it in tiles of 1024 rows by 512 columns, each from whole rows of the input and whole columns of
  the weight. Every tile is the tile of one function `product` of the two arrays, and the tiles fill the result.
-/
module

public import proofs.«01_k».proof.Defs
public import proofs.«01_k».proof.Proof.Gen.Kernel10Ideal.Value
public import proofs.«01_k».proof.Proof.Gen.Reference10Ideal.Read
public import Idealize.ShloMosaic.Lib.Pipeline.ValueKit
public import Idealize.ShloMosaic.Lib.Claim

@[expose] public section

set_option maxRecDepth 16384

noncomputable section

namespace Cert.Kernel10Ideal.NsaVProj

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def product (a : FVec Ideal S16384x4096 .bf16) (w : FVec Ideal S4096x1536 .bf16) : FVec Ideal S16384x1536 .bf16 :=
  fun j => (∑ k : Fin 4096, a (ix2 (j 0) k) * w (ix2 k (j 1)) : EReal)

/-- Which block of each array a grid point works on. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- One tile: what a grid point stores is `product` at the place of the tile. -/
theorem point (c : Dev nD) (t : Fin cfg0.N) (y) : k0_pay1 (iblk m c 0 t) (iblk m c 1 t) y
    = product (m ((c : Thread nD τ).loc main_arg0)) (m ((c : Thread nD τ).loc main_arg1))
        (((cfg0.win 2).blk t).view.emb y) := by
  idx_vars y
  pointwise [k0_pay1, product]
  blk_point [iblk, V, idx t]

/-- The tiles fill the result: it ends holding `product` of the arguments. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.NsaVProj

namespace Cert.Reference10Ideal.NsaVProj

open Cert.Reference10Ideal Cert.Reference10Ideal.Gen Cert.Reference10Ideal.Read Idealize.ShloMosaic

/-- The reference's result is the same function of its arguments. -/
theorem reference (a : FVec Ideal S16384x4096 .bf16) (w : FVec Ideal S4096x1536 .bf16) :
    val_main_v1 (F := Ideal) a w = Cert.Kernel10Ideal.NsaVProj.product a w := by
  funext j
  idx_vars j
  pointwise [val_main_v1, val_main_v0, Cert.Kernel10Ideal.NsaVProj.product]

end Cert.Reference10Ideal.NsaVProj

/-- Kernel and reference leave the same result. -/
theorem Cert.Kernel10Ideal.NsaVProj.algebraic : Cert.algebraic_Kernel10Ideal_Reference10Ideal := by
  pair_intro
  · run_from Cert.Kernel10Ideal.Gen.run_main m g
  · run_from Cert.Reference10Ideal.Value.run m' g'
    exact (Cert.Reference10Ideal.Read.val_main_v1_eq _ _).trans
      ((Cert.Reference10Ideal.NsaVProj.reference _ _).trans (Cert.Kernel10Ideal.NsaVProj.final m c).symm)

end
-- ==== Proof.PoolProj.lean ====
/-
  The projection into the pooling mixer: `h @ w_pool`.

  The kernel computes it in tiles of 1024 rows by 512 columns, each from whole rows of the input and whole columns of
  the weight. Every tile is the tile of one function `product` of the two arrays, and the tiles fill the result.
-/
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Claim

@[expose] public section

set_option maxRecDepth 16384

noncomputable section

namespace Cert.Kernel11Ideal.PoolProj

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def product (a : FVec Ideal S16384x4096 .bf16) (w : FVec Ideal S4096x1024 .bf16) : FVec Ideal S16384x1024 .f32 :=
  fun j => (∑ k : Fin 4096, a (ix2 (j 0) k) * w (ix2 k (j 1)) : EReal)

/-- Which block of each array a grid point works on. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- One tile: what a grid point stores is `product` at the place of the tile. -/
theorem point (c : Dev nD) (t : Fin cfg0.N) (y) : k0_pay1 (iblk m c 0 t) (iblk m c 1 t) y
    = product (m ((c : Thread nD τ).loc main_arg0)) (m ((c : Thread nD τ).loc main_arg1))
        (((cfg0.win 2).blk t).view.emb y) := by
  idx_vars y
  pointwise [k0_pay1, product]
  blk_point [iblk, V, idx t]

/-- The tiles fill the result: it ends holding `product` of the arguments. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel11Ideal.PoolProj

namespace Cert.Reference11Ideal.PoolProj

open Cert.Reference11Ideal Cert.Reference11Ideal.Gen Cert.Reference11Ideal.Read Idealize.ShloMosaic

/-- The reference's result is the same function of its arguments. -/
theorem reference (a : FVec Ideal S16384x4096 .bf16) (w : FVec Ideal S4096x1024 .bf16) :
    val_main_v0 (F := Ideal) a w = Cert.Kernel11Ideal.PoolProj.product a w := by
  funext j
  idx_vars j
  pointwise [val_main_v0, Cert.Kernel11Ideal.PoolProj.product]

end Cert.Reference11Ideal.PoolProj

/-- Kernel and reference leave the same result. -/
theorem Cert.Kernel11Ideal.PoolProj.algebraic : Cert.algebraic_Kernel11Ideal_Reference11Ideal := by
  pair_intro
  · run_from Cert.Kernel11Ideal.Gen.run_main m g
  · run_from Cert.Reference11Ideal.Value.run m' g'
    exact (Cert.Reference11Ideal.Read.val_main_v0_eq _ _).trans
      ((Cert.Reference11Ideal.PoolProj.reference _ _).trans (Cert.Kernel11Ideal.PoolProj.final m c).symm)

end
-- ==== Proof.HeadTurn.lean ====
/-
  A head of 128 numbers whose first 32 are turned by 16 angles: number `d` with number `16 + d`, for `d < 16`.

  `turned` is the rotation itself. `swung` is the same with three factors for every place of the head, each for one of
  three copies of the head: the head, the head moved 16 places down and the head moved 16 places up. With the factors
  `cosAt`, `negAt` and `sinAt` the two are equal, whatever the numbers are.
-/
module

public import Idealize.ShloMosaic.Lib.Pipeline.ValueKit
public import Idealize.ShloMosaic.PureOps.Ideal.Laws

@[expose] public section

noncomputable section

namespace Cert.HeadTurn

open Idealize.ShloMosaic

/-- Place `d` of the head `x` turned by the angles of cosines `c` and sines `s`. -/
def turned (x : Fin 128 → EReal) (c s : Fin 16 → EReal) (d : Fin 128) : EReal :=
  if h : d.val < 16 then x d * c ⟨d.val, h⟩ - x ⟨16 + d.val, by omega⟩ * s ⟨d.val, h⟩
  else if h : d.val - 16 < 16 then x d * c ⟨d.val - 16, h⟩ + x ⟨d.val - 16, by omega⟩ * s ⟨d.val - 16, h⟩
  else x d

/-- Place `d` of the head `x`, as three products with the factors of that place. -/
def swung (x : Fin 128 → EReal) (C A B : EReal) (d : Fin 128) : EReal :=
  x d * C + x ⟨(d.val + 128 - 112) % 128, by omega⟩ * A + x ⟨(d.val + 128 - 16) % 128, by omega⟩ * B

/-- The factor of a place itself. -/
def cosAt (c : Fin 16 → EReal) (d : Fin 128) : EReal :=
  if h : d.val < 16 then c ⟨d.val, h⟩ else if h : d.val - 16 < 16 then c ⟨d.val - 16, h⟩ else 1

/-- The factor of the place 16 further. -/
def negAt (s : Fin 16 → EReal) (d : Fin 128) : EReal :=
  if h : d.val < 16 then -s ⟨d.val, h⟩ else 0

/-- The factor of the place 16 before. -/
def sinAt (s : Fin 16 → EReal) (d : Fin 128) : EReal :=
  if d.val < 16 then 0 else if h : d.val - 16 < 16 then s ⟨d.val - 16, h⟩ else 0

/-- The three products make the rotation. -/
theorem swung_eq (x : Fin 128 → EReal) (c s : Fin 16 → EReal) (d : Fin 128) :
    swung x (cosAt c d) (negAt s d) (sinAt s d) d = turned x c s d := by
  unfold swung turned cosAt negAt sinAt
  by_cases h : d.val < 16
  · have e : (⟨(d.val + 128 - 112) % 128, by omega⟩ : Fin 128) = ⟨16 + d.val, by omega⟩ := Fin.ext (by dsimp only; omega)
    simp only [h, dif_pos, if_pos, e, mul_zero, add_zero, mul_neg, sub_eq_add_neg]
  · by_cases h' : d.val - 16 < 16
    · have e : (⟨(d.val + 128 - 16) % 128, by omega⟩ : Fin 128) = ⟨d.val - 16, by omega⟩ := Fin.ext (by dsimp only; omega)
      simp only [dif_neg h, if_neg h, dif_pos h', e, mul_zero, add_zero]
    · simp only [dif_neg h, if_neg h, dif_neg h', mul_zero, add_zero, mul_one]

end Cert.HeadTurn

end
-- ==== Proof.NsaQProj.lean ====
/-
  The sparse attention's queries: `h @ w`, each head normed, times its gain, turned, times the attention's scale.

  The kernel computes tiles of 1024 rows by four heads of 128 columns, each from whole rows of the input and whole
  columns of the weight, and works on the four heads one by one before it lays them side by side. A head is turned by
  three products with the rows of three tables. Every tile is the tile of one function `heads` of the arrays, and the
  tiles fill the result.
-/
module

public import proofs.«01_k».proof.Defs
public import proofs.«01_k».proof.Proof.HeadNorm
public import proofs.«01_k».proof.Proof.HeadTurn
public import proofs.«01_k».proof.Proof.Gen.Kernel12Ideal.Value
public import proofs.«01_k».proof.Proof.Gen.Reference12Ideal.Read
public import Idealize.ShloMosaic.Lib.Pipeline.ValueKit
public import Idealize.ShloMosaic.Lib.Claim

@[expose] public section

set_option maxRecDepth 16384

noncomputable section

namespace Cert.Kernel12Ideal.NsaQProj

open Cert.Kernel12Ideal Cert.Kernel12Ideal.Gen Cert.HeadTurn
open Cert.HeadNorm (normed)
open Idealize.ShloMosaic Idealize.ShloMosaic.TcCoe Idealize.SL.Sem
open Idealize.ShloMosaic.Pipeline (Dat)

variable (m : (ℓ : Loc nD τ sig) → Buf (Elt Ideal) ℓ)

/-- Column `d` of the head that column `e` belongs to. -/
def mate (e : Fin 2048) (d : Fin 128) : Fin 2048 := ⟨e.val / 128 * 128 + d.val, by omega⟩

/-- A column's place in its head. -/
def place (e : Fin 2048) : Fin 128 := ⟨e.val % 128, by omega⟩

/-- The result element by element, over whole arrays: the product, each head normed and turned by its row's angles. -/
def heads (a : FVec Ideal S16384x4096 .bf16) (w : FVec Ideal S4096x2048 .bf16) (g : FVec Ideal S128 .f32)
    (c s : FVec Ideal S16384x16 .f32) : FVec Ideal S16384x2048 .bf16 := fun j =>
  (turned (fun d => normed (∑ k : Fin 4096, a (ix2 (j 0) k) * w (ix2 k (mate (j 1) d))) (fun d' => ∑ k : Fin 4096, a (ix2 (j 0) k) * w (ix2 k (mate (j 1) d')))
      (g (ix1 d)))
    (fun e => c (ix2 (j 0) e)) (fun e => s (ix2 (j 0) e)) (place (j 1)) * Ideal.ofBits FTy.f32 1040356334#32 : EReal)

/-- The cosines beside the cosines beside ones. -/
def cosTable (c : FVec Ideal S16384x16 .f32) : FVec Ideal S16384x128 .f32 :=
  concatenate S16384x128 1 [⟨S16384x16, c⟩, ⟨S16384x16, c⟩,
    ⟨S16384x96, broadcastInDim S16384x96 ![] bcast_S_S16384x96 (constant (F := Ideal) S_ .f32 1065353216#32)⟩]
    concatenates_S16384x16_S16384x16_S16384x96_S16384x128_d1

/-- The sines' negatives beside zeros. -/
def negTable (s : FVec Ideal S16384x16 .f32) : FVec Ideal S16384x128 .f32 :=
  concatenate S16384x128 1 [⟨S16384x16, Host.negf s⟩,
    ⟨S16384x112, broadcastInDim S16384x112 ![] bcast_S_S16384x112 (constant (F := Ideal) S_ .f32 0#32)⟩]
    concatenates_S16384x16_S16384x112_S16384x128_d1

/-- Zeros beside the sines beside zeros. -/
def sinTable (s : FVec Ideal S16384x16 .f32) : FVec Ideal S16384x128 .f32 :=
  concatenate S16384x128 1
    [⟨S16384x16, broadcastInDim S16384x16 ![] bcast_S_S16384x16 (constant (F := Ideal) S_ .f32 0#32)⟩, ⟨S16384x16, s⟩,
    ⟨S16384x96, broadcastInDim S16384x96 ![] bcast_S_S16384x96 (constant (F := Ideal) S_ .f32 0#32)⟩]
    concatenates_S16384x16_S16384x16_S16384x96_S16384x128_d1

/-- The host prepares the three tables. -/
theorem host_cos (c : Dev nD) : V m c main_v4 = cosTable (m ((c : Thread nD τ).loc main_arg3)) := by
  simp only [V, List.flatten_cons, List.flatten_nil, List.append_nil]
  after_results
  rfl

theorem host_neg (c : Dev nD) : V m c main_v7 = negTable (m ((c : Thread nD τ).loc main_arg4)) := by
  simp only [V, List.flatten_cons, List.flatten_nil, List.append_nil]
  after_results
  rfl

theorem host_sin (c : Dev nD) : V m c main_v10 = sinTable (m ((c : Thread nD τ).loc main_arg4)) := by
  simp only [V, List.flatten_cons, List.flatten_nil, List.append_nil]
  after_results
  rfl

theorem cos_apply (c : FVec Ideal S16384x16 .f32) (i : Fin 16384) (d : Fin 128) :
    cosTable c (ix2 i d) = cosAt (fun e => c (ix2 i e)) d := by
  pointwise [cosTable, cosAt]

theorem neg_apply (s : FVec Ideal S16384x16 .f32) (i : Fin 16384) (d : Fin 128) :
    negTable s (ix2 i d) = negAt (fun e => s (ix2 i e)) d := by
  pointwise [negTable, negAt]

theorem sin_apply (s : FVec Ideal S16384x16 .f32) (i : Fin 16384) (d : Fin 128) :
    sinTable s (ix2 i d) = sinAt (fun e => s (ix2 i e)) d := by
  pointwise [sinTable, sinAt]
  split_ifs <;> rfl

/-- The gains of a tile's four heads. -/
def gains (p0 p1 p2 p3 : FVec Ideal S1x128 .f32) : Fin 4 → FVec Ideal S1x128 .f32 := ![p0, p1, p2, p3]

set_option maxHeartbeats 1000000 in
/-- The `n`-th head of a tile. -/
theorem head (x : FVec Ideal S1024x4096 .bf16) (w : FVec Ideal S4096x512 .bf16) (p0 p1 p2 p3 : FVec Ideal S1x128 .f32)
    (C A B : FVec Ideal S1024x128 .f32) (n : Fin 4) (r : Fin 1024) (d : Fin 128) :
    k0_pay1 (F := Ideal) (k0_pay3 x w p0 C A B) (k0_pay6 (k0_pay4 x w) (k0_pay5 x w) p1 C A B)
        (k0_pay8 (k0_pay7 (k0_pay2 x w) p2) C A B) (k0_pay10 (k0_pay2 x w) p3 C A) (k0_pay11 (k0_pay2 x w) p3) B
        (ix2 r ⟨n.val * 128 + d.val, by omega⟩)
      = (swung (fun d' => (normed (∑ k : Fin 4096, x (ix2 r k) * w (ix2 k ⟨n.val * 128 + d'.val, by omega⟩) : EReal)
            (fun e' => (∑ k : Fin 4096, x (ix2 r k) * w (ix2 k ⟨n.val * 128 + e'.val, by omega⟩) : EReal)) (gains p0 p1 p2 p3 n (ix2 0 d') : EReal) : EReal))
          (C (ix2 r d)) (A (ix2 r d)) (B (ix2 r d)) d * Ideal.ofBits FTy.f32 1040356334#32 : EReal) := by
  match n with
  | 0 => pointwise [k0_pay1, k0_pay2, k0_pay3, k0_pay4, k0_pay5, k0_pay6, k0_pay7, k0_pay8, k0_pay9, k0_pay10, k0_pay11, normed, gains, swung]
  | 1 => pointwise [k0_pay1, k0_pay2, k0_pay3, k0_pay4, k0_pay5, k0_pay6, k0_pay7, k0_pay8, k0_pay9, k0_pay10, k0_pay11, normed, gains, swung]
  | 2 =>
    pointwise [k0_pay1, k0_pay2, k0_pay3, k0_pay4, k0_pay5, k0_pay6, k0_pay7, k0_pay8, k0_pay9, k0_pay10, k0_pay11, normed, gains, swung]
    rw [dif_neg (by omega), dif_neg (by omega), dif_pos (by omega)]
    simp only [show 256 + d.val - 128 - 128 = d.val by omega, Fin.eta]
  | 3 =>
    pointwise [k0_pay1, k0_pay2, k0_pay3, k0_pay4, k0_pay5, k0_pay6, k0_pay7, k0_pay8, k0_pay9, k0_pay10, k0_pay11, normed, gains, swung]
    rw [dif_neg (by omega), dif_neg (by omega), dif_neg (by omega)]
    simp only [show 384 + d.val - 128 - 128 - 128 = d.val by omega, Fin.eta]

/-- The `n`-th head's gains are those of its 128 columns. -/
theorem gains_apply (v : FVec Ideal S1x512 .f32) (n : Fin 4) (d : Fin 128) :
    gains (View.ld (Val := Elt Ideal) (e' := .f32) v r0_2) (View.ld (Val := Elt Ideal) (e' := .f32) v r0_4) (View.ld (Val := Elt Ideal) (e' := .f32) v r0_5) (View.ld (Val := Elt Ideal) (e' := .f32) v r0_6) n (ix2 0 d)
      = v (ix2 0 ⟨n.val * 128 + d.val, by omega⟩) := by
  match n with
  | 0 => exact congrArg v (funext fun a => Fin.ext (by
      match a with
      | ⟨0, _⟩ => rfl
      | ⟨1, _⟩ => show 0 + 1 * d.val = 0 * 128 + d.val; omega))
  | 1 => exact congrArg v (funext fun a => Fin.ext (by
      match a with
      | ⟨0, _⟩ => rfl
      | ⟨1, _⟩ => show 128 + 1 * d.val = 1 * 128 + d.val; omega))
  | 2 => exact congrArg v (funext fun a => Fin.ext (by
      match a with
      | ⟨0, _⟩ => rfl
      | ⟨1, _⟩ => show 256 + 1 * d.val = 2 * 128 + d.val; omega))
  | 3 => exact congrArg v (funext fun a => Fin.ext (by
      match a with
      | ⟨0, _⟩ => rfl
      | ⟨1, _⟩ => show 384 + 1 * d.val = 3 * 128 + d.val; omega))

/-- Column `d` of the head that column `e` of a tile belongs to. -/
def mate4 (e : Fin 512) (d : Fin 128) : Fin 512 := ⟨e.val / 128 * 128 + d.val, by omega⟩

set_option maxHeartbeats 1000000 in
/-- A tile, element by element, from its rows, its columns, its gains and its tables. -/
theorem tile (x : FVec Ideal S1024x4096 .bf16) (w : FVec Ideal S4096x512 .bf16) (v : FVec Ideal S1x512 .f32)
    (C A B : FVec Ideal S1024x128 .f32) (r : Fin 1024) (e : Fin 512) : out0_6 (F := Ideal) x w v C A B (ix2 r e)
      = (swung (fun d => (normed (∑ k : Fin 4096, x (ix2 r k) * w (ix2 k (mate4 e d)) : EReal)
            (fun d' => (∑ k : Fin 4096, x (ix2 r k) * w (ix2 k (mate4 e d')) : EReal)) (v (ix2 0 (mate4 e d)) : EReal) : EReal))
          (C (ix2 r ⟨e.val % 128, by omega⟩)) (A (ix2 r ⟨e.val % 128, by omega⟩)) (B (ix2 r ⟨e.val % 128, by omega⟩))
          ⟨e.val % 128, by omega⟩ * Ideal.ofBits FTy.f32 1040356334#32 : EReal) := by
  obtain ⟨n, d, rfl⟩ : ∃ (n : Fin 4) (d : Fin 128), e = ⟨n.val * 128 + d.val, by omega⟩ :=
    ⟨⟨e.val / 128, by omega⟩, ⟨e.val % 128, by omega⟩, Fin.ext (by dsimp only; omega)⟩
  have e1 : (⟨(n.val * 128 + d.val) % 128, by omega⟩ : Fin 128) = d := Fin.ext (by dsimp only; omega)
  have e2 : ∀ d' : Fin 128, mate4 ⟨n.val * 128 + d.val, by omega⟩ d' = ⟨n.val * 128 + d'.val, by omega⟩ :=
    fun d' => Fin.ext (by simp only [mate4]; omega)
  simp only [e1, e2]
  unfold_out out0_6
  frame_out
  refine (head x w (View.ld (Val := Elt Ideal) (e' := .f32) v r0_2)
    (View.ld (Val := Elt Ideal) (e' := .f32) v r0_4)
    (View.ld (Val := Elt Ideal) (e' := .f32) v r0_5)
    (View.ld (Val := Elt Ideal) (e' := .f32) v r0_6)
    C A B n r d).trans ?_
  simp only [gains_apply]

/-- The host repeats the gains for the 16 heads. -/
theorem host_gain (c : Dev nD) : V m c main_v11
    = shapeCast S1x2048 (shapeCast S2048 (broadcastInDim S16x128 ![0, 1] bcast_S1x128_S16x128_0_1
        (shapeCast S1x128 (m ((c : Thread nD τ).loc main_arg2)) shapeCasts_S128_S1x128)) shapeCasts_S16x128_S2048)
      shapeCasts_S2048_S1x2048 := by
  simp only [V, List.flatten_cons, List.flatten_nil, List.append_nil]
  after_results
  rfl

/-- So a column's gain is the one of its place in its head. -/
theorem gain (c : Dev nD) (e : Fin 2048) : V m c main_v11 (ix2 0 e) = (m ((c : Thread nD τ).loc main_arg2)) (ix1 (place e)) := by
  rw [host_gain]
  pointwise [place]

/-- Which block of each array a grid point works on. -/
theorem idx : ∀ t : Fin cfg0.N, win0_0.index t = ![t.val / 4, 0]
    ∧ win0_1.index t = ![0, t.val % 4]
    ∧ win0_2.index t = ![0, t.val % 4]
    ∧ win0_3.index t = ![t.val / 4, 0]
    ∧ win0_4.index t = ![t.val / 4, 0]
    ∧ win0_5.index t = ![t.val / 4, 0]
    ∧ win0_6.index t = ![t.val / 4, t.val % 4] :=
  (by decide +kernel : ∀ t : Fin grid0.N, _)

/-- Row `r` of a grid point's block of rows. -/
def row (t : Fin cfg0.N) (r : Fin 1024) : Fin 16384 :=
  ⟨t.val / 4 * 1024 + r.val, by have := t.isLt; have : cfg0.N = 64 := N_0; omega⟩

/-- Column `e` of a grid point's block of columns. -/
def col (t : Fin cfg0.N) (e : Fin 512) : Fin 2048 := ⟨t.val % 4 * 512 + e.val, by omega⟩

/-- A block of the input's rows. -/
theorem read_0 (c : Dev nD) (t : Fin cfg0.N) (r : Fin 1024) (k : Fin 4096) :
    iblk m c 0 t (ix2 r k) = (m ((c : Thread nD τ).loc main_arg0)) (ix2 (row t r) k) := by
  blk_point [iblk, V, idx t]
  all_goals simp only [row]

/-- A block of the weight's columns. -/
theorem read_1 (c : Dev nD) (t : Fin cfg0.N) (k : Fin 4096) (e : Fin 512) :
    iblk m c 1 t (ix2 k e) = (m ((c : Thread nD τ).loc main_arg1)) (ix2 k (col t e)) := by
  blk_point [iblk, V, idx t]
  all_goals simp only [col]

/-- A block of the gains. -/
theorem read_gain (c : Dev nD) (t : Fin cfg0.N) (e : Fin 512) :
    iblk m c 2 t (ix2 0 e) = (m ((c : Thread nD τ).loc main_arg2)) (ix1 (place (col t e))) := by
  refine Eq.trans ?_ (gain m c (col t e))
  blk_point [iblk, idx t]
  all_goals simp only [col]

/-- A block of a table's rows. -/
theorem read_cos (c : Dev nD) (t : Fin cfg0.N) (r : Fin 1024) (d : Fin 128) :
    iblk m c 3 t (ix2 r d) = cosAt (fun e => (m ((c : Thread nD τ).loc main_arg3)) (ix2 (row t r) e)) d := by
  refine Eq.trans ?_ ((congrFun (host_cos m c) (ix2 (row t r) d)).trans (cos_apply _ _ _))
  blk_point [iblk, idx t]
  all_goals simp only [row]

/-- A block of a table's rows. -/
theorem read_neg (c : Dev nD) (t : Fin cfg0.N) (r : Fin 1024) (d : Fin 128) :
    iblk m c 4 t (ix2 r d) = negAt (fun e => (m ((c : Thread nD τ).loc main_arg4)) (ix2 (row t r) e)) d := by
  refine Eq.trans ?_ ((congrFun (host_neg m c) (ix2 (row t r) d)).trans (neg_apply _ _ _))
  blk_point [iblk, idx t]
  all_goals simp only [row]

/-- A block of a table's rows. -/
theorem read_sin (c : Dev nD) (t : Fin cfg0.N) (r : Fin 1024) (d : Fin 128) :
    iblk m c 5 t (ix2 r d) = sinAt (fun e => (m ((c : Thread nD τ).loc main_arg4)) (ix2 (row t r) e)) d := by
  refine Eq.trans ?_ ((congrFun (host_sin m c) (ix2 (row t r) d)).trans (sin_apply _ _ _))
  blk_point [iblk, idx t]
  all_goals simp only [row]

/-- One tile: what a grid point stores is `heads` at the place of the tile. -/
theorem point (c : Dev nD) (t : Fin cfg0.N) (r : Fin 1024) (e : Fin 512) :
    out0_6 (iblk m c 0 t) (iblk m c 1 t) (iblk m c 2 t) (iblk m c 3 t) (iblk m c 4 t) (iblk m c 5 t) (ix2 r e)
      = heads (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) (col t e)) := by
  have hm : ∀ d : Fin 128, col t (mate4 e d) = mate (col t e) d :=
    fun d => Fin.ext (by simp only [col, mate, mate4]; omega)
  have hp : (⟨e.val % 128, by omega⟩ : Fin 128) = place (col t e) := Fin.ext (by simp only [col, place]; omega)
  have hq : ∀ d : Fin 128, place (mate (col t e) d) = d := fun d => Fin.ext (by simp only [place, mate]; omega)
  refine (tile _ _ _ _ _ _ r e).trans ?_
  simp only [read_0, read_1, read_gain, read_cos, read_neg, read_sin, hm, hp, hq, swung_eq]
  rfl

/-- The tiles fill the result: it ends holding `heads` of the arguments. -/
theorem final (c : Dev nD) : (dats m 0 c).arrAt 6 (cfgs 0).N
    = heads (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  idx_vars y
  blk_simp
  rw [after0_6]
  refine (point m c t y0 y1).trans (congrArg (heads _ _ _ _ _) ?_)
  blk_ext [idx t]
  all_goals simp only [row, col]

end Cert.Kernel12Ideal.NsaQProj

namespace Cert.Reference12Ideal.NsaQProj

open Cert.Reference12Ideal Cert.Reference12Ideal.Gen Cert.Reference12Ideal.Read Idealize.ShloMosaic
open Cert.HeadNorm (normed)
open Cert.HeadTurn
open Cert.Kernel12Ideal.NsaQProj (heads mate place)

/-- The reference's result is the same function of its arguments. -/
theorem reference (a : FVec Ideal S16384x4096 .bf16) (w : FVec Ideal S4096x2048 .bf16) (g : FVec Ideal S128 .f32)
    (c s : FVec Ideal S16384x16 .f32) :
    val_main_v34 (F := Ideal) a w g c s = heads a w g c s := by
  funext j
  idx_vars j
  pointwise [val_main_v34, val_main_v33, val_main_v32, val_main_v31, val_main_v30, val_main_v29, val_main_v28,
    val_main_v27, val_main_v26, val_main_v25, val_main_v24, val_main_v23, val_main_v22, val_main_v21,
    val_main_v20, val_main_v19, val_main_v18, val_main_v17, val_main_v16, val_main_v15, val_main_v14,
    val_main_v13, val_main_v12, val_main_v11, val_main_v10, val_main_v9, val_main_v8, val_main_v7,
    val_main_v6, val_main_v5, val_main_v4, val_main_v3, val_main_v2, val_main_v1, val_main_v0,
    val_main_cst, val_main_cst_0, val_main_cst_1, val_main_cst_2,
    heads, turned, normed, mate, place]
  have e : j1.val / 128 * 128 + j1.val % 128 = j1.val := Nat.div_add_mod' _ _
  by_cases h1 : j1.val % 128 < 16
  · simp only [dif_pos h1, e, Fin.eta]
  · by_cases h2 : j1.val % 128 - 16 < 16
    · simp only [dif_neg h1, dif_pos h2, show 16 + (j1.val % 128 - 16) = j1.val % 128 by omega, e, Fin.eta]
    · simp only [dif_neg h1, dif_neg h2, show 32 + (j1.val % 128 - 16 - 16) = j1.val % 128 by omega, e, Fin.eta]

end Cert.Reference12Ideal.NsaQProj

namespace Cert.Kernel12Ideal.NsaQProj

open Idealize.ShloMosaic Idealize.ShloMosaic.TcCoe Idealize.SL.Sem Cert.Kernel12Ideal.Gen

/-- Kernel and reference leave the same result. -/
theorem algebraic : Cert.algebraic_Kernel12Ideal_Reference12Ideal := by
  intro m g m' g' _ hagree
  refine ⟨fun c => (dats m 0 c).arrAt 6 (cfgs 0).N, ?_, ?_⟩
  · exact Cert.Kernel12Ideal.Value.run_blocks m g
  · refine (θ_run Cert.Reference12Ideal.defs _ _).mono (fun r h c => ⟨(h c).1.trans ?_, (h c).2⟩)
      (Cert.Reference12Ideal.Value.run m' g')
    obtain ⟨e0, e1, e2, e3, e4⟩ := hagree c
    refine (Cert.Reference12Ideal.Read.val_main_v34_eq _ _).trans ?_
    rw [e0, e1, e2, e3, e4]
    exact (Cert.Reference12Ideal.NsaQProj.reference _ _ _ _ _).trans (final m c).symm

end Cert.Kernel12Ideal.NsaQProj

end
-- ==== Proof.NsaKProj.lean ====
/-
  The sparse attention's two sets of keys: `h @ w`, each head normed, times its set's gain, turned.

  The kernel computes tiles of 1024 rows by four heads of 128 columns, each from whole rows of the input and whole
  columns of the weight, and works on the four heads one by one before it lays them side by side. A head is turned by
  three products with the rows of three tables. Every tile is the tile of one function `heads` of the arrays, and the
  tiles fill the result.
-/
module

public import proofs.«01_k».proof.Defs
public import proofs.«01_k».proof.Proof.HeadNorm
public import proofs.«01_k».proof.Proof.HeadTurn
public import proofs.«01_k».proof.Proof.Gen.Kernel13Ideal.Value
public import proofs.«01_k».proof.Proof.Gen.Reference13Ideal.Read
public import Idealize.ShloMosaic.Lib.Pipeline.ValueKit
public import Idealize.ShloMosaic.Lib.Claim

@[expose] public section

set_option maxRecDepth 16384

noncomputable section

namespace Cert.Kernel13Ideal.NsaKProj

open Cert.Kernel13Ideal Cert.Kernel13Ideal.Gen Cert.HeadTurn
open Cert.HeadNorm (normed)
open Idealize.ShloMosaic Idealize.ShloMosaic.TcCoe Idealize.SL.Sem
open Idealize.ShloMosaic.Pipeline (Dat)

variable (m : (ℓ : Loc nD τ sig) → Buf (Elt Ideal) ℓ)

/-- Column `d` of the head that column `e` belongs to. -/
def mate (e : Fin 1024) (d : Fin 128) : Fin 1024 := ⟨e.val / 128 * 128 + d.val, by omega⟩

/-- A column's place in its head. -/
def place (e : Fin 1024) : Fin 128 := ⟨e.val % 128, by omega⟩

/-- Which of the two sets of keys a column belongs to. -/
def half (e : Fin 1024) : Fin 2 := ⟨e.val / 512, by omega⟩

/-- The result element by element, over whole arrays: the product, each head normed and turned by its row's angles. -/
def heads (a : FVec Ideal S16384x4096 .bf16) (w : FVec Ideal S4096x1024 .bf16) (g : FVec Ideal S2x128 .f32)
    (c s : FVec Ideal S16384x16 .f32) : FVec Ideal S16384x1024 .bf16 := fun j =>
  (turned (fun d => normed (∑ k : Fin 4096, a (ix2 (j 0) k) * w (ix2 k (mate (j 1) d))) (fun d' => ∑ k : Fin 4096, a (ix2 (j 0) k) * w (ix2 k (mate (j 1) d')))
      (g (ix2 (half (j 1)) d)))
    (fun e => c (ix2 (j 0) e)) (fun e => s (ix2 (j 0) e)) (place (j 1)) : EReal)

/-- The cosines beside the cosines beside ones. -/
def cosTable (c : FVec Ideal S16384x16 .f32) : FVec Ideal S16384x128 .f32 :=
  concatenate S16384x128 1 [⟨S16384x16, c⟩, ⟨S16384x16, c⟩,
    ⟨S16384x96, broadcastInDim S16384x96 ![] bcast_S_S16384x96 (constant (F := Ideal) S_ .f32 1065353216#32)⟩]
    concatenates_S16384x16_S16384x16_S16384x96_S16384x128_d1

/-- The sines' negatives beside zeros. -/
def negTable (s : FVec Ideal S16384x16 .f32) : FVec Ideal S16384x128 .f32 :=
  concatenate S16384x128 1 [⟨S16384x16, Host.negf s⟩,
    ⟨S16384x112, broadcastInDim S16384x112 ![] bcast_S_S16384x112 (constant (F := Ideal) S_ .f32 0#32)⟩]
    concatenates_S16384x16_S16384x112_S16384x128_d1

/-- Zeros beside the sines beside zeros. -/
def sinTable (s : FVec Ideal S16384x16 .f32) : FVec Ideal S16384x128 .f32 :=
  concatenate S16384x128 1
    [⟨S16384x16, broadcastInDim S16384x16 ![] bcast_S_S16384x16 (constant (F := Ideal) S_ .f32 0#32)⟩, ⟨S16384x16, s⟩,
    ⟨S16384x96, broadcastInDim S16384x96 ![] bcast_S_S16384x96 (constant (F := Ideal) S_ .f32 0#32)⟩]
    concatenates_S16384x16_S16384x16_S16384x96_S16384x128_d1

/-- The host prepares the three tables. -/
theorem host_cos (c : Dev nD) : V m c main_v12 = cosTable (m ((c : Thread nD τ).loc main_arg3)) := by
  simp only [V, List.flatten_cons, List.flatten_nil, List.append_nil]
  after_results
  rfl

theorem host_neg (c : Dev nD) : V m c main_v15 = negTable (m ((c : Thread nD τ).loc main_arg4)) := by
  simp only [V, List.flatten_cons, List.flatten_nil, List.append_nil]
  after_results
  rfl

theorem host_sin (c : Dev nD) : V m c main_v18 = sinTable (m ((c : Thread nD τ).loc main_arg4)) := by
  simp only [V, List.flatten_cons, List.flatten_nil, List.append_nil]
  after_results
  rfl

theorem cos_apply (c : FVec Ideal S16384x16 .f32) (i : Fin 16384) (d : Fin 128) :
    cosTable c (ix2 i d) = cosAt (fun e => c (ix2 i e)) d := by
  pointwise [cosTable, cosAt]

theorem neg_apply (s : FVec Ideal S16384x16 .f32) (i : Fin 16384) (d : Fin 128) :
    negTable s (ix2 i d) = negAt (fun e => s (ix2 i e)) d := by
  pointwise [negTable, negAt]

theorem sin_apply (s : FVec Ideal S16384x16 .f32) (i : Fin 16384) (d : Fin 128) :
    sinTable s (ix2 i d) = sinAt (fun e => s (ix2 i e)) d := by
  pointwise [sinTable, sinAt]
  split_ifs <;> rfl

/-- The gains of a tile's four heads. -/
def gains (p0 p1 p2 p3 : FVec Ideal S1x128 .f32) : Fin 4 → FVec Ideal S1x128 .f32 := ![p0, p1, p2, p3]

set_option maxHeartbeats 1000000 in
/-- The `n`-th head of a tile. -/
theorem head (x : FVec Ideal S1024x4096 .bf16) (w : FVec Ideal S4096x512 .bf16) (p0 p1 p2 p3 : FVec Ideal S1x128 .f32)
    (C A B : FVec Ideal S1024x128 .f32) (n : Fin 4) (r : Fin 1024) (d : Fin 128) :
    k0_pay9 (F := Ideal) (k0_pay1 x w) (k0_pay2 x w p0 C A B) (k0_pay5 (k0_pay3 x w) (k0_pay4 x w) p1 C A B)
        (k0_pay6 (k0_pay1 x w) p2) (k0_pay7 (k0_pay1 x w) p2 C) (k0_pay8 (k0_pay1 x w) p2) A B p3 C A B
        (ix2 r ⟨n.val * 128 + d.val, by omega⟩)
      = (swung (fun d' => (normed (∑ k : Fin 4096, x (ix2 r k) * w (ix2 k ⟨n.val * 128 + d'.val, by omega⟩) : EReal)
            (fun e' => (∑ k : Fin 4096, x (ix2 r k) * w (ix2 k ⟨n.val * 128 + e'.val, by omega⟩) : EReal)) (gains p0 p1 p2 p3 n (ix2 0 d') : EReal) : EReal))
          (C (ix2 r d)) (A (ix2 r d)) (B (ix2 r d)) d : EReal) := by
  match n with
  | 0 => pointwise [k0_pay1, k0_pay2, k0_pay3, k0_pay4, k0_pay5, k0_pay6, k0_pay7, k0_pay8, k0_pay9, normed, gains, swung]
  | 1 => pointwise [k0_pay1, k0_pay2, k0_pay3, k0_pay4, k0_pay5, k0_pay6, k0_pay7, k0_pay8, k0_pay9, normed, gains, swung]
  | 2 =>
    pointwise [k0_pay1, k0_pay2, k0_pay3, k0_pay4, k0_pay5, k0_pay6, k0_pay7, k0_pay8, k0_pay9, normed, gains, swung]
    rw [dif_neg (by omega), dif_neg (by omega), dif_pos (by omega)]
    simp only [show 256 + d.val - 128 - 128 = d.val by omega, Fin.eta]
  | 3 =>
    pointwise [k0_pay1, k0_pay2, k0_pay3, k0_pay4, k0_pay5, k0_pay6, k0_pay7, k0_pay8, k0_pay9, normed, gains, swung]
    rw [dif_neg (by omega), dif_neg (by omega), dif_neg (by omega)]
    simp only [show 384 + d.val - 128 - 128 - 128 = d.val by omega, Fin.eta]

/-- The `n`-th head's gains are those of its 128 columns. -/
theorem gains_apply (v : FVec Ideal S1x512 .f32) (n : Fin 4) (d : Fin 128) :
    gains (View.ld (Val := Elt Ideal) (e' := .f32) v r0_2) (View.ld (Val := Elt Ideal) (e' := .f32) v r0_4) (View.ld (Val := Elt Ideal) (e' := .f32) v r0_5) (View.ld (Val := Elt Ideal) (e' := .f32) v r0_6) n (ix2 0 d)
      = v (ix2 0 ⟨n.val * 128 + d.val, by omega⟩) := by
  match n with
  | 0 => exact congrArg v (funext fun a => Fin.ext (by
      match a with
      | ⟨0, _⟩ => rfl
      | ⟨1, _⟩ => show 0 + 1 * d.val = 0 * 128 + d.val; omega))
  | 1 => exact congrArg v (funext fun a => Fin.ext (by
      match a with
      | ⟨0, _⟩ => rfl
      | ⟨1, _⟩ => show 128 + 1 * d.val = 1 * 128 + d.val; omega))
  | 2 => exact congrArg v (funext fun a => Fin.ext (by
      match a with
      | ⟨0, _⟩ => rfl
      | ⟨1, _⟩ => show 256 + 1 * d.val = 2 * 128 + d.val; omega))
  | 3 => exact congrArg v (funext fun a => Fin.ext (by
      match a with
      | ⟨0, _⟩ => rfl
      | ⟨1, _⟩ => show 384 + 1 * d.val = 3 * 128 + d.val; omega))

/-- Column `d` of the head that column `e` of a tile belongs to. -/
def mate4 (e : Fin 512) (d : Fin 128) : Fin 512 := ⟨e.val / 128 * 128 + d.val, by omega⟩

set_option maxHeartbeats 1000000 in
/-- A tile, element by element, from its rows, its columns, its gains and its tables. -/
theorem tile (x : FVec Ideal S1024x4096 .bf16) (w : FVec Ideal S4096x512 .bf16) (v : FVec Ideal S1x512 .f32)
    (C A B : FVec Ideal S1024x128 .f32) (r : Fin 1024) (e : Fin 512) : out0_6 (F := Ideal) x w v C A B (ix2 r e)
      = (swung (fun d => (normed (∑ k : Fin 4096, x (ix2 r k) * w (ix2 k (mate4 e d)) : EReal)
            (fun d' => (∑ k : Fin 4096, x (ix2 r k) * w (ix2 k (mate4 e d')) : EReal)) (v (ix2 0 (mate4 e d)) : EReal) : EReal))
          (C (ix2 r ⟨e.val % 128, by omega⟩)) (A (ix2 r ⟨e.val % 128, by omega⟩)) (B (ix2 r ⟨e.val % 128, by omega⟩))
          ⟨e.val % 128, by omega⟩ : EReal) := by
  obtain ⟨n, d, rfl⟩ : ∃ (n : Fin 4) (d : Fin 128), e = ⟨n.val * 128 + d.val, by omega⟩ :=
    ⟨⟨e.val / 128, by omega⟩, ⟨e.val % 128, by omega⟩, Fin.ext (by dsimp only; omega)⟩
  have e1 : (⟨(n.val * 128 + d.val) % 128, by omega⟩ : Fin 128) = d := Fin.ext (by dsimp only; omega)
  have e2 : ∀ d' : Fin 128, mate4 ⟨n.val * 128 + d.val, by omega⟩ d' = ⟨n.val * 128 + d'.val, by omega⟩ :=
    fun d' => Fin.ext (by simp only [mate4]; omega)
  simp only [e1, e2]
  unfold_out out0_6
  frame_out
  refine (head x w (View.ld (Val := Elt Ideal) (e' := .f32) v r0_2)
    (View.ld (Val := Elt Ideal) (e' := .f32) v r0_4)
    (View.ld (Val := Elt Ideal) (e' := .f32) v r0_5)
    (View.ld (Val := Elt Ideal) (e' := .f32) v r0_6)
    C A B n r d).trans ?_
  simp only [gains_apply]

/-- The host repeats each set's gains for its four heads. -/
theorem host_gain (c : Dev nD) : V m c main_v19
    = shapeCast S1x1024 (concatenate S1024 0
        [⟨S512, shapeCast S512 (broadcastInDim S4x128 ![0, 1] bcast_S1x128_S4x128_0_1 (shapeCast S1x128
          (shapeCast S128 (extractStridedSlice S1x128 ![0, 0] (m ((c : Thread nD τ).loc main_arg2)) slices_S2x128_S1x128_0_0)
            shapeCasts_S1x128_S128) shapeCasts_S128_S1x128)) shapeCasts_S4x128_S512⟩,
        ⟨S512, shapeCast S512 (broadcastInDim S4x128 ![0, 1] bcast_S1x128_S4x128_0_1 (shapeCast S1x128
          (shapeCast S128 (extractStridedSlice S1x128 ![1, 0] (m ((c : Thread nD τ).loc main_arg2)) slices_S2x128_S1x128_1_0)
            shapeCasts_S1x128_S128) shapeCasts_S128_S1x128)) shapeCasts_S4x128_S512⟩]
        concatenates_S512_S512_S1024_d0) shapeCasts_S1024_S1x1024 := by
  simp only [V, List.flatten_cons, List.flatten_nil, List.append_nil]
  after_results
  rfl

/-- So a column's gain is the one of its set and of its place in its head. -/
theorem gain (c : Dev nD) (e : Fin 1024) : V m c main_v19 (ix2 0 e) = (m ((c : Thread nD τ).loc main_arg2)) (ix2 (half e) (place e)) := by
  rw [host_gain]
  pointwise [place, half]
  by_cases h : e.val < 512
  · rw [dif_pos h]
    exact congrArg (m _) (congrArg₂ ix2 (Fin.ext (show 0 = e.val / 512 by omega)) rfl)
  · rw [dif_neg h]
    exact congrArg (m _) (congrArg₂ ix2 (Fin.ext (show 1 = e.val / 512 by omega))
      (Fin.ext (show (e.val - 512) % 128 = e.val % 128 by omega)))

/-- Which block of each array a grid point works on. -/
theorem idx : ∀ t : Fin cfg0.N, win0_0.index t = ![t.val / 2, 0]
    ∧ win0_1.index t = ![0, t.val % 2]
    ∧ win0_2.index t = ![0, t.val % 2]
    ∧ win0_3.index t = ![t.val / 2, 0]
    ∧ win0_4.index t = ![t.val / 2, 0]
    ∧ win0_5.index t = ![t.val / 2, 0]
    ∧ win0_6.index t = ![t.val / 2, t.val % 2] :=
  (by decide +kernel : ∀ t : Fin grid0.N, _)

/-- Row `r` of a grid point's block of rows. -/
def row (t : Fin cfg0.N) (r : Fin 1024) : Fin 16384 :=
  ⟨t.val / 2 * 1024 + r.val, by have := t.isLt; have : cfg0.N = 32 := N_0; omega⟩

/-- Column `e` of a grid point's block of columns. -/
def col (t : Fin cfg0.N) (e : Fin 512) : Fin 1024 := ⟨t.val % 2 * 512 + e.val, by omega⟩

/-- A block of the input's rows. -/
theorem read_0 (c : Dev nD) (t : Fin cfg0.N) (r : Fin 1024) (k : Fin 4096) :
    iblk m c 0 t (ix2 r k) = (m ((c : Thread nD τ).loc main_arg0)) (ix2 (row t r) k) := by
  blk_point [iblk, V, idx t]
  all_goals simp only [row]

/-- A block of the weight's columns. -/
theorem read_1 (c : Dev nD) (t : Fin cfg0.N) (k : Fin 4096) (e : Fin 512) :
    iblk m c 1 t (ix2 k e) = (m ((c : Thread nD τ).loc main_arg1)) (ix2 k (col t e)) := by
  blk_point [iblk, V, idx t]
  all_goals simp only [col]

/-- A block of the gains. -/
theorem read_gain (c : Dev nD) (t : Fin cfg0.N) (e : Fin 512) :
    iblk m c 2 t (ix2 0 e) = (m ((c : Thread nD τ).loc main_arg2)) (ix2 (half (col t e)) (place (col t e))) := by
  refine Eq.trans ?_ (gain m c (col t e))
  blk_point [iblk, idx t]
  all_goals simp only [col]

/-- A block of a table's rows. -/
theorem read_cos (c : Dev nD) (t : Fin cfg0.N) (r : Fin 1024) (d : Fin 128) :
    iblk m c 3 t (ix2 r d) = cosAt (fun e => (m ((c : Thread nD τ).loc main_arg3)) (ix2 (row t r) e)) d := by
  refine Eq.trans ?_ ((congrFun (host_cos m c) (ix2 (row t r) d)).trans (cos_apply _ _ _))
  blk_point [iblk, idx t]
  all_goals simp only [row]

/-- A block of a table's rows. -/
theorem read_neg (c : Dev nD) (t : Fin cfg0.N) (r : Fin 1024) (d : Fin 128) :
    iblk m c 4 t (ix2 r d) = negAt (fun e => (m ((c : Thread nD τ).loc main_arg4)) (ix2 (row t r) e)) d := by
  refine Eq.trans ?_ ((congrFun (host_neg m c) (ix2 (row t r) d)).trans (neg_apply _ _ _))
  blk_point [iblk, idx t]
  all_goals simp only [row]

/-- A block of a table's rows. -/
theorem read_sin (c : Dev nD) (t : Fin cfg0.N) (r : Fin 1024) (d : Fin 128) :
    iblk m c 5 t (ix2 r d) = sinAt (fun e => (m ((c : Thread nD τ).loc main_arg4)) (ix2 (row t r) e)) d := by
  refine Eq.trans ?_ ((congrFun (host_sin m c) (ix2 (row t r) d)).trans (sin_apply _ _ _))
  blk_point [iblk, idx t]
  all_goals simp only [row]

/-- One tile: what a grid point stores is `heads` at the place of the tile. -/
theorem point (c : Dev nD) (t : Fin cfg0.N) (r : Fin 1024) (e : Fin 512) :
    out0_6 (iblk m c 0 t) (iblk m c 1 t) (iblk m c 2 t) (iblk m c 3 t) (iblk m c 4 t) (iblk m c 5 t) (ix2 r e)
      = heads (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) (col t e)) := by
  have hm : ∀ d : Fin 128, col t (mate4 e d) = mate (col t e) d :=
    fun d => Fin.ext (by simp only [col, mate, mate4]; omega)
  have hp : (⟨e.val % 128, by omega⟩ : Fin 128) = place (col t e) := Fin.ext (by simp only [col, place]; omega)
  have hq : ∀ d : Fin 128, place (mate (col t e) d) = d := fun d => Fin.ext (by simp only [place, mate]; omega)
  have hh : ∀ d : Fin 128, half (mate (col t e) d) = half (col t e) := fun d => Fin.ext (by simp only [half, mate]; omega)
  refine (tile _ _ _ _ _ _ r e).trans ?_
  simp only [read_0, read_1, read_gain, read_cos, read_neg, read_sin, hm, hp, hq, hh, swung_eq]
  rfl

/-- The tiles fill the result: it ends holding `heads` of the arguments. -/
theorem final (c : Dev nD) : (dats m 0 c).arrAt 6 (cfgs 0).N
    = heads (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  idx_vars y
  blk_simp
  rw [after0_6]
  refine (point m c t y0 y1).trans (congrArg (heads _ _ _ _ _) ?_)
  blk_ext [idx t]
  all_goals simp only [row, col]

end Cert.Kernel13Ideal.NsaKProj

namespace Cert.Reference13Ideal.NsaKProj

open Cert.Reference13Ideal Cert.Reference13Ideal.Gen Cert.Reference13Ideal.Read Idealize.ShloMosaic
open Cert.HeadNorm (normed)
open Cert.HeadTurn
open Cert.Kernel13Ideal.NsaKProj (heads mate place half)

/-- The reference's result is the same function of its arguments. -/
theorem reference (a : FVec Ideal S16384x4096 .bf16) (w : FVec Ideal S4096x1024 .bf16) (g : FVec Ideal S2x128 .f32)
    (c s : FVec Ideal S16384x16 .f32) :
    val_main_v33 (F := Ideal) a w g c s = heads a w g c s := by
  funext j
  idx_vars j
  pointwise [val_main_v33, val_main_v32, val_main_v31, val_main_v30, val_main_v29, val_main_v28, val_main_v27,
    val_main_v26, val_main_v25, val_main_v24, val_main_v23, val_main_v22, val_main_v21, val_main_v20,
    val_main_v19, val_main_v18, val_main_v17, val_main_v16, val_main_v15, val_main_v14, val_main_v13,
    val_main_v12, val_main_v11, val_main_v10, val_main_v9, val_main_v8, val_main_v7, val_main_v6,
    val_main_v5, val_main_v4, val_main_v3, val_main_v2, val_main_v1, val_main_v0, val_main_cst,
    val_main_cst_0, val_main_cst_1,
    heads, turned, normed, mate, place, half]
  have q1 : j1.val / 128 / 4 * 512 + j1.val / 128 % 4 * 128 = j1.val / 128 * 128 := by omega
  have q2 : j1.val / 128 / 4 = j1.val / 512 := by omega
  simp only [q1]
  simp only [q2]
  have e : j1.val / 128 * 128 + j1.val % 128 = j1.val := Nat.div_add_mod' _ _
  by_cases h1 : j1.val % 128 < 16
  · simp only [dif_pos h1, e, Fin.eta]
  · by_cases h2 : j1.val % 128 - 16 < 16
    · simp only [dif_neg h1, dif_pos h2, show 16 + (j1.val % 128 - 16) = j1.val % 128 by omega, e, Fin.eta]
    · simp only [dif_neg h1, dif_neg h2, show 32 + (j1.val % 128 - 16 - 16) = j1.val % 128 by omega, e, Fin.eta]

end Cert.Reference13Ideal.NsaKProj

namespace Cert.Kernel13Ideal.NsaKProj

open Idealize.ShloMosaic Idealize.ShloMosaic.TcCoe Idealize.SL.Sem Cert.Kernel13Ideal.Gen

/-- Kernel and reference leave the same result. -/
theorem algebraic : Cert.algebraic_Kernel13Ideal_Reference13Ideal := by
  intro m g m' g' _ hagree
  refine ⟨fun c => (dats m 0 c).arrAt 6 (cfgs 0).N, ?_, ?_⟩
  · exact Cert.Kernel13Ideal.Value.run_blocks m g
  · refine (θ_run Cert.Reference13Ideal.defs _ _).mono (fun r h c => ⟨(h c).1.trans ?_, (h c).2⟩)
      (Cert.Reference13Ideal.Value.run m' g')
    obtain ⟨e0, e1, e2, e3, e4⟩ := hagree c
    refine (Cert.Reference13Ideal.Read.val_main_v33_eq _ _).trans ?_
    rw [e0, e1, e2, e3, e4]
    exact (Cert.Reference13Ideal.NsaKProj.reference _ _ _ _ _).trans (final m c).symm

end Cert.Kernel13Ideal.NsaKProj

end
-- ==== Proof.NsaKcmpProj.lean ====
/-
  The sparse attention's keys before they are compressed: `h @ w`, each head turned.

  The kernel computes tiles of 1024 rows by four heads of 128 columns, each from whole rows of the input and whole
  columns of the weight, and works on the four heads one by one before it lays them side by side. A head is turned by
  three products with the rows of three tables. Every tile is the tile of one function `heads` of the arrays, and the
  tiles fill the result.
-/
module

public import proofs.«01_k».proof.Defs
public import proofs.«01_k».proof.Proof.HeadNorm
public import proofs.«01_k».proof.Proof.HeadTurn
public import proofs.«01_k».proof.Proof.Gen.Kernel14Ideal.Value
public import proofs.«01_k».proof.Proof.Gen.Reference14Ideal.Read
public import Idealize.ShloMosaic.Lib.Pipeline.ValueKit
public import Idealize.ShloMosaic.Lib.Claim

@[expose] public section

set_option maxRecDepth 16384

noncomputable section

namespace Cert.Kernel14Ideal.NsaKcmpProj

open Cert.Kernel14Ideal Cert.Kernel14Ideal.Gen Cert.HeadTurn
open Cert.HeadNorm (normed)
open Idealize.ShloMosaic Idealize.ShloMosaic.TcCoe Idealize.SL.Sem
open Idealize.ShloMosaic.Pipeline (Dat)

variable (m : (ℓ : Loc nD τ sig) → Buf (Elt Ideal) ℓ)

/-- Column `d` of the head that column `e` belongs to. -/
def mate (e : Fin 512) (d : Fin 128) : Fin 512 := ⟨e.val / 128 * 128 + d.val, by omega⟩

/-- A column's place in its head. -/
def place (e : Fin 512) : Fin 128 := ⟨e.val % 128, by omega⟩

/-- The result element by element, over whole arrays: the product, each head turned by its row's angles. -/
def heads (a : FVec Ideal S16384x4096 .bf16) (w : FVec Ideal S4096x512 .bf16)
    (c s : FVec Ideal S16384x16 .f32) : FVec Ideal S16384x512 .bf16 := fun j =>
  (turned (fun d => (∑ k : Fin 4096, a (ix2 (j 0) k) * w (ix2 k (mate (j 1) d)) : EReal))
    (fun e => c (ix2 (j 0) e)) (fun e => s (ix2 (j 0) e)) (place (j 1)) : EReal)

/-- The cosines beside the cosines beside ones. -/
def cosTable (c : FVec Ideal S16384x16 .f32) : FVec Ideal S16384x128 .f32 :=
  concatenate S16384x128 1 [⟨S16384x16, c⟩, ⟨S16384x16, c⟩,
    ⟨S16384x96, broadcastInDim S16384x96 ![] bcast_S_S16384x96 (constant (F := Ideal) S_ .f32 1065353216#32)⟩]
    concatenates_S16384x16_S16384x16_S16384x96_S16384x128_d1

/-- The sines' negatives beside zeros. -/
def negTable (s : FVec Ideal S16384x16 .f32) : FVec Ideal S16384x128 .f32 :=
  concatenate S16384x128 1 [⟨S16384x16, Host.negf s⟩,
    ⟨S16384x112, broadcastInDim S16384x112 ![] bcast_S_S16384x112 (constant (F := Ideal) S_ .f32 0#32)⟩]
    concatenates_S16384x16_S16384x112_S16384x128_d1

/-- Zeros beside the sines beside zeros. -/
def sinTable (s : FVec Ideal S16384x16 .f32) : FVec Ideal S16384x128 .f32 :=
  concatenate S16384x128 1
    [⟨S16384x16, broadcastInDim S16384x16 ![] bcast_S_S16384x16 (constant (F := Ideal) S_ .f32 0#32)⟩, ⟨S16384x16, s⟩,
    ⟨S16384x96, broadcastInDim S16384x96 ![] bcast_S_S16384x96 (constant (F := Ideal) S_ .f32 0#32)⟩]
    concatenates_S16384x16_S16384x16_S16384x96_S16384x128_d1

/-- The host prepares the three tables. -/
theorem host_cos (c : Dev nD) : V m c main_v1 = cosTable (m ((c : Thread nD τ).loc main_arg2)) := by
  simp only [V, List.flatten_cons, List.flatten_nil, List.append_nil]
  after_results
  rfl

theorem host_neg (c : Dev nD) : V m c main_v4 = negTable (m ((c : Thread nD τ).loc main_arg3)) := by
  simp only [V, List.flatten_cons, List.flatten_nil, List.append_nil]
  after_results
  rfl

theorem host_sin (c : Dev nD) : V m c main_v7 = sinTable (m ((c : Thread nD τ).loc main_arg3)) := by
  simp only [V, List.flatten_cons, List.flatten_nil, List.append_nil]
  after_results
  rfl

theorem cos_apply (c : FVec Ideal S16384x16 .f32) (i : Fin 16384) (d : Fin 128) :
    cosTable c (ix2 i d) = cosAt (fun e => c (ix2 i e)) d := by
  pointwise [cosTable, cosAt]

theorem neg_apply (s : FVec Ideal S16384x16 .f32) (i : Fin 16384) (d : Fin 128) :
    negTable s (ix2 i d) = negAt (fun e => s (ix2 i e)) d := by
  pointwise [negTable, negAt]

theorem sin_apply (s : FVec Ideal S16384x16 .f32) (i : Fin 16384) (d : Fin 128) :
    sinTable s (ix2 i d) = sinAt (fun e => s (ix2 i e)) d := by
  pointwise [sinTable, sinAt]
  split_ifs <;> rfl

/-- The `n`-th head of a tile. -/
theorem head (x : FVec Ideal S1024x4096 .bf16) (w : FVec Ideal S4096x512 .bf16)
    (C A B : FVec Ideal S1024x128 .f32) (n : Fin 4) (r : Fin 1024) (d : Fin 128) :
    k0_pay1 (F := Ideal) (k0_pay2 x w) (k0_pay3 x w C A B) (k0_pay4 x w C A B) (k0_pay5 x w) (k0_pay6 C) A B C A B
        (ix2 r ⟨n.val * 128 + d.val, by omega⟩)
      = (swung (fun d' => (∑ k : Fin 4096, x (ix2 r k) * w (ix2 k ⟨n.val * 128 + d'.val, by omega⟩) : EReal))
          (C (ix2 r d)) (A (ix2 r d)) (B (ix2 r d)) d : EReal) := by
  match n with
  | 0 => pointwise [k0_pay1, k0_pay2, k0_pay3, k0_pay4, k0_pay5, k0_pay6, swung]
  | 1 => pointwise [k0_pay1, k0_pay2, k0_pay3, k0_pay4, k0_pay5, k0_pay6, swung]
  | 2 =>
    pointwise [k0_pay1, k0_pay2, k0_pay3, k0_pay4, k0_pay5, k0_pay6, swung]
    rw [dif_neg (by omega), dif_neg (by omega), dif_pos (by omega)]
    simp only [show 256 + d.val - 128 - 128 = d.val by omega, Fin.eta]
  | 3 =>
    pointwise [k0_pay1, k0_pay2, k0_pay3, k0_pay4, k0_pay5, k0_pay6, swung]
    rw [dif_neg (by omega), dif_neg (by omega), dif_neg (by omega)]
    simp only [show 384 + d.val - 128 - 128 - 128 = d.val by omega, Fin.eta]

/-- Column `d` of the head that column `e` of a tile belongs to. -/
def mate4 (e : Fin 512) (d : Fin 128) : Fin 512 := ⟨e.val / 128 * 128 + d.val, by omega⟩

/-- A tile, element by element, from its rows, its columns and its tables. -/
theorem tile (x : FVec Ideal S1024x4096 .bf16) (w : FVec Ideal S4096x512 .bf16)
    (C A B : FVec Ideal S1024x128 .f32) (r : Fin 1024) (e : Fin 512) : out0_5 (F := Ideal) x w C A B (ix2 r e)
      = (swung (fun d => (∑ k : Fin 4096, x (ix2 r k) * w (ix2 k (mate4 e d)) : EReal))
          (C (ix2 r ⟨e.val % 128, by omega⟩)) (A (ix2 r ⟨e.val % 128, by omega⟩)) (B (ix2 r ⟨e.val % 128, by omega⟩))
          ⟨e.val % 128, by omega⟩ : EReal) := by
  obtain ⟨n, d, rfl⟩ : ∃ (n : Fin 4) (d : Fin 128), e = ⟨n.val * 128 + d.val, by omega⟩ :=
    ⟨⟨e.val / 128, by omega⟩, ⟨e.val % 128, by omega⟩, Fin.ext (by dsimp only; omega)⟩
  have e1 : (⟨(n.val * 128 + d.val) % 128, by omega⟩ : Fin 128) = d := Fin.ext (by dsimp only; omega)
  have e2 : ∀ d' : Fin 128, mate4 ⟨n.val * 128 + d.val, by omega⟩ d' = ⟨n.val * 128 + d'.val, by omega⟩ :=
    fun d' => Fin.ext (by simp only [mate4]; omega)
  simp only [e1, e2]
  frame_out
  refine (head x w C A B n r d).trans ?_
  rfl

/-- Which block of each array a grid point works on. -/
theorem idx : ∀ t : Fin cfg0.N, win0_0.index t = ![t.val / 1, 0]
    ∧ win0_1.index t = ![0, t.val % 1]
    ∧ win0_2.index t = ![t.val / 1, 0]
    ∧ win0_3.index t = ![t.val / 1, 0]
    ∧ win0_4.index t = ![t.val / 1, 0]
    ∧ win0_5.index t = ![t.val / 1, t.val % 1] :=
  (by decide +kernel : ∀ t : Fin grid0.N, _)

/-- Row `r` of a grid point's block of rows. -/
def row (t : Fin cfg0.N) (r : Fin 1024) : Fin 16384 :=
  ⟨t.val / 1 * 1024 + r.val, by have := t.isLt; have : cfg0.N = 16 := N_0; omega⟩

/-- Column `e` of a grid point's block of columns. -/
def col (t : Fin cfg0.N) (e : Fin 512) : Fin 512 := ⟨t.val % 1 * 512 + e.val, by omega⟩

/-- A block of the input's rows. -/
theorem read_0 (c : Dev nD) (t : Fin cfg0.N) (r : Fin 1024) (k : Fin 4096) :
    iblk m c 0 t (ix2 r k) = (m ((c : Thread nD τ).loc main_arg0)) (ix2 (row t r) k) := by
  blk_point [iblk, V, idx t]
  all_goals simp only [row]

/-- A block of the weight's columns. -/
theorem read_1 (c : Dev nD) (t : Fin cfg0.N) (k : Fin 4096) (e : Fin 512) :
    iblk m c 1 t (ix2 k e) = (m ((c : Thread nD τ).loc main_arg1)) (ix2 k (col t e)) := by
  blk_point [iblk, V, idx t]
  all_goals simp only [col]

/-- A block of a table's rows. -/
theorem read_cos (c : Dev nD) (t : Fin cfg0.N) (r : Fin 1024) (d : Fin 128) :
    iblk m c 2 t (ix2 r d) = cosAt (fun e => (m ((c : Thread nD τ).loc main_arg2)) (ix2 (row t r) e)) d := by
  refine Eq.trans ?_ ((congrFun (host_cos m c) (ix2 (row t r) d)).trans (cos_apply _ _ _))
  blk_point [iblk, idx t]
  all_goals simp only [row]

/-- A block of a table's rows. -/
theorem read_neg (c : Dev nD) (t : Fin cfg0.N) (r : Fin 1024) (d : Fin 128) :
    iblk m c 3 t (ix2 r d) = negAt (fun e => (m ((c : Thread nD τ).loc main_arg3)) (ix2 (row t r) e)) d := by
  refine Eq.trans ?_ ((congrFun (host_neg m c) (ix2 (row t r) d)).trans (neg_apply _ _ _))
  blk_point [iblk, idx t]
  all_goals simp only [row]

/-- A block of a table's rows. -/
theorem read_sin (c : Dev nD) (t : Fin cfg0.N) (r : Fin 1024) (d : Fin 128) :
    iblk m c 4 t (ix2 r d) = sinAt (fun e => (m ((c : Thread nD τ).loc main_arg3)) (ix2 (row t r) e)) d := by
  refine Eq.trans ?_ ((congrFun (host_sin m c) (ix2 (row t r) d)).trans (sin_apply _ _ _))
  blk_point [iblk, idx t]
  all_goals simp only [row]

/-- One tile: what a grid point stores is `heads` at the place of the tile. -/
theorem point (c : Dev nD) (t : Fin cfg0.N) (r : Fin 1024) (e : Fin 512) :
    out0_5 (iblk m c 0 t) (iblk m c 1 t) (iblk m c 2 t) (iblk m c 3 t) (iblk m c 4 t) (ix2 r e)
      = heads (m ((c : Thread nD τ).loc main_arg0)) (m ((c : Thread nD τ).loc main_arg1)) (m ((c : Thread nD τ).loc main_arg2)) (m ((c : Thread nD τ).loc main_arg3)) (ix2 (row t r) (col t e)) := by
  have hm : ∀ d : Fin 128, col t (mate4 e d) = mate (col t e) d :=
    fun d => Fin.ext (by simp only [col, mate, mate4]; omega)
  have hp : (⟨e.val % 128, by omega⟩ : Fin 128) = place (col t e) := Fin.ext (by simp only [col, place]; omega)
  refine (tile _ _ _ _ _ r e).trans ?_
  simp only [read_0, read_1, read_cos, read_neg, read_sin, hm, hp, swung_eq]
  rfl

/-- The tiles fill the result: it ends holding `heads` of the arguments. -/
theorem final (c : Dev nD) : (dats m 0 c).arrAt 5 (cfgs 0).N
    = heads (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  idx_vars y
  blk_simp
  rw [after0_5]
  refine (point m c t y0 y1).trans (congrArg (heads _ _ _ _) ?_)
  blk_ext [idx t]
  all_goals simp only [row, col]

end Cert.Kernel14Ideal.NsaKcmpProj

namespace Cert.Reference14Ideal.NsaKcmpProj

open Cert.Reference14Ideal Cert.Reference14Ideal.Gen Cert.Reference14Ideal.Read Idealize.ShloMosaic
open Cert.HeadNorm (normed)
open Cert.HeadTurn
open Cert.Kernel14Ideal.NsaKcmpProj (heads mate place)

/-- The reference's result is the same function of its arguments. -/
theorem reference (a : FVec Ideal S16384x4096 .bf16) (w : FVec Ideal S4096x512 .bf16)
    (c s : FVec Ideal S16384x16 .f32) :
    val_main_v19 (F := Ideal) a w c s = heads a w c s := by
  funext j
  idx_vars j
  pointwise [val_main_v19, val_main_v18, val_main_v17, val_main_v16, val_main_v15, val_main_v14, val_main_v13,
    val_main_v12, val_main_v11, val_main_v10, val_main_v9, val_main_v8, val_main_v7, val_main_v6,
    val_main_v5, val_main_v4, val_main_v3, val_main_v2, val_main_v1, val_main_v0,
    heads, turned, normed, mate, place]
  have e : j1.val / 128 * 128 + j1.val % 128 = j1.val := Nat.div_add_mod' _ _
  by_cases h1 : j1.val % 128 < 16
  · simp only [dif_pos h1, e, Fin.eta]
  · by_cases h2 : j1.val % 128 - 16 < 16
    · simp only [dif_neg h1, dif_pos h2, show 16 + (j1.val % 128 - 16) = j1.val % 128 by omega, e, Fin.eta]
    · simp only [dif_neg h1, dif_neg h2, show 32 + (j1.val % 128 - 16 - 16) = j1.val % 128 by omega, e, Fin.eta]

end Cert.Reference14Ideal.NsaKcmpProj

namespace Cert.Kernel14Ideal.NsaKcmpProj

open Idealize.ShloMosaic Idealize.ShloMosaic.TcCoe Idealize.SL.Sem Cert.Kernel14Ideal.Gen

/-- Kernel and reference leave the same result. -/
theorem algebraic : Cert.algebraic_Kernel14Ideal_Reference14Ideal := by
  intro m g m' g' _ hagree
  refine ⟨fun c => (dats m 0 c).arrAt 5 (cfgs 0).N, ?_, ?_⟩
  · exact Cert.Kernel14Ideal.Value.run_blocks m g
  · refine (θ_run Cert.Reference14Ideal.defs _ _).mono (fun r h c => ⟨(h c).1.trans ?_, (h c).2⟩)
      (Cert.Reference14Ideal.Value.run m' g')
    obtain ⟨e0, e1, e2, e3⟩ := hagree c
    refine (Cert.Reference14Ideal.Read.val_main_v19_eq _ _ _ _).trans ?_
    rw [e0, e1, e2, e3]
    exact (Cert.Reference14Ideal.NsaKcmpProj.reference _ _ _ _).trans (final m c).symm

end Cert.Kernel14Ideal.NsaKcmpProj

end
-- ==== Proof.RmsNorm.lean ====
/-
  The layer's first normalisation: each row over its root mean square, times the gains.

  The kernel takes blocks of 256 whole rows.
-/
module

public import proofs.«01_k».proof.Defs
public import proofs.«01_k».proof.Proof.Gen.Kernel15Ideal.Value
public import proofs.«01_k».proof.Proof.Gen.Reference15Ideal.Read
public import Idealize.ShloMosaic.Lib.Pipeline.ValueKit
public import Idealize.ShloMosaic.Lib.Claim

@[expose] public section

set_option maxRecDepth 16384

noncomputable section

namespace Cert.Kernel15Ideal.RmsNorm

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def rows (x : FVec Ideal S16384x4096 .f32) (g : FVec Ideal S4096 .f32) : FVec Ideal S16384x4096 .bf16 :=
  fun j => (x j * Ideal.rsqrt (Ideal.div (∑ k : Fin 4096, x (ix2 (j 0) k) * x (ix2 (j 0) k))
      (Ideal.ofBits FTy.f32 1166016512#32) + Ideal.ofBits FTy.f32 897988541#32) * g (ix1 (j 1)) : EReal)

/-- Which block of each array a grid point works on. -/
theorem idx : ∀ t : Fin cfg0.N, win0_0.index t = ![t.val, 0] ∧ win0_1.index t = ![0, 0]
    ∧ win0_2.index t = ![t.val, 0] :=
  (by decide +kernel : ∀ t : Fin grid0.N, _)

/-- One tile: what a grid point stores is `rows` at the place of the tile. -/
theorem point (c : Dev nD) (t : Fin cfg0.N) (y) : k0_pay1 (iblk m c 0 t) (iblk m c 1 t) y
    = rows (m ((c : Thread nD τ).loc main_arg0)) (m ((c : Thread nD τ).loc main_arg1))
        (((cfg0.win 2).blk t).view.emb y) := by
  idx_vars y
  pointwise [k0_pay1, rows]
  blk_point [iblk, V, idx t]

/-- The tiles fill the result: it ends holding `rows` of the arguments. -/
theorem final (c : Dev nD) : (dats m 0 c).arrAt 2 (cfgs 0).N
    = rows (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel15Ideal.RmsNorm

namespace Cert.Reference15Ideal.RmsNorm

open Cert.Reference15Ideal Cert.Reference15Ideal.Gen Cert.Reference15Ideal.Read Idealize.ShloMosaic

/-- The reference's result is the same function of its arguments. -/
theorem reference (x : FVec Ideal S16384x4096 .f32) (g : FVec Ideal S4096 .f32) :
    val_main_v13 (F := Ideal) x g = Cert.Kernel15Ideal.RmsNorm.rows x g := by
  funext j
  idx_vars j
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.Kernel15Ideal.RmsNorm.rows]

end Cert.Reference15Ideal.RmsNorm

/-- Kernel and reference leave the same result. -/
theorem Cert.Kernel15Ideal.RmsNorm.algebraic : Cert.algebraic_Kernel15Ideal_Reference15Ideal := by
  pair_intro
  · run_from Cert.Kernel15Ideal.Gen.run_main m g
  · run_from Cert.Reference15Ideal.Value.run m' g'
    exact (Cert.Reference15Ideal.Read.val_main_v13_eq _ _).trans
      ((Cert.Reference15Ideal.RmsNorm.reference _ _).trans (Cert.Kernel15Ideal.RmsNorm.final m c).symm)

end
-- ==== Proof.FoxGate.lean ====
/-
  The logarithms of the forget gates: the log-sigmoid of `h @ w_f + b_f`.

  The kernel computes them in tiles of 1024 rows, each from whole rows of the input, the whole weight and the bias, and
  passes a tile through the log-sigmoid before it stores it.
-/
module

public import proofs.«01_k».proof.Defs
public import proofs.«01_k».proof.Proof.Gen.Kernel16Ideal.Value
public import proofs.«01_k».proof.Proof.Gen.Reference16Ideal.Read
public import Idealize.ShloMosaic.Lib.Pipeline.ValueKit
public import Idealize.ShloMosaic.Lib.Claim

@[expose] public section

set_option maxRecDepth 16384

noncomputable section

namespace Cert.Kernel16Ideal.FoxGate

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- The log-sigmoid, computed so that no exponential overflows. -/
def logSigmoid (v : EReal) : EReal :=
  -(max (-v) 0 + Ideal.log1p (Ideal.exp (-(FloatOps.absf (F := Ideal) (φ := .f32) (-v)))))

/-- The result element by element, over whole arrays. -/
def gates (a : FVec Ideal S16384x4096 .bf16) (w : FVec Ideal S4096x128 .bf16) (b : FVec Ideal S1x128 .f32) : FVec Ideal S16384x128 .f32 :=
  fun j => logSigmoid ((∑ k : Fin 4096, a (ix2 (j 0) k) * w (ix2 k (j 1))) + b (ix2 0 (j 1)))

/-- Which block of each array a grid point works on. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- One tile: what a grid point stores is `gates` at the place of the tile. -/
theorem point (c : Dev nD) (t : Fin cfg0.N) (y) : k0_pay1 (iblk m c 0 t) (iblk m c 1 t) (iblk m c 2 t) y
    = gates (m ((c : Thread nD τ).loc main_arg0)) (m ((c : Thread nD τ).loc main_arg1)) (m ((c : Thread nD τ).loc main_arg2))
        (((cfg0.win 3).blk t).view.emb y) := by
  idx_vars y
  pointwise [k0_pay1, gates, logSigmoid]
  simp only [zero_sub]
  blk_point [iblk, V, idx t]

/-- The tiles fill the result: it ends holding `gates` of the arguments. -/
theorem final (c : Dev nD) : (dats m 0 c).arrAt 3 (cfgs 0).N
    = gates (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel16Ideal.FoxGate

namespace Cert.Reference16Ideal.FoxGate

open Cert.Reference16Ideal Cert.Reference16Ideal.Gen Cert.Reference16Ideal.Read Idealize.ShloMosaic

/-- The reference's result is the same function of its arguments. -/
theorem reference (a : FVec Ideal S16384x4096 .bf16) (w : FVec Ideal S4096x128 .bf16) (b : FVec Ideal S1x128 .f32) :
    val_main_v3 (F := Ideal) a w b = Cert.Kernel16Ideal.FoxGate.gates a w b := by
  funext j
  idx_vars j
  pointwise [val_main_v3, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v2, val_main_v1, val_main_v0, Cert.Kernel16Ideal.FoxGate.gates, Cert.Kernel16Ideal.FoxGate.logSigmoid]
  simp only [ne_eq, not_true_eq_false, if_false]

end Cert.Reference16Ideal.FoxGate

/-- Kernel and reference leave the same result. -/
theorem Cert.Kernel16Ideal.FoxGate.algebraic : Cert.algebraic_Kernel16Ideal_Reference16Ideal := by
  pair_intro
  · run_from Cert.Kernel16Ideal.Gen.run_main m g
  · run_from Cert.Reference16Ideal.Value.run m' g'
    exact (Cert.Reference16Ideal.Read.val_main_v3_eq _ _ _).trans
      ((Cert.Reference16Ideal.FoxGate.reference _ _ _).trans (Cert.Kernel16Ideal.FoxGate.final m c).symm)

end
-- ==== Proof.NsaGate.lean ====
/-
  The gates that mix the sparse attention's three branches: the sigmoid of `h @ w_g`.

  The kernel computes them in tiles of 1024 rows, each from whole rows of the input and the whole weight, and passes
  a tile through the sigmoid before it stores it.
-/
module

public import proofs.«01_k».proof.Defs
public import proofs.«01_k».proof.Proof.Gen.Kernel17Ideal.Value
public import proofs.«01_k».proof.Proof.Gen.Reference17Ideal.Read
public import Idealize.ShloMosaic.Lib.Pipeline.ValueKit
public import Idealize.ShloMosaic.Lib.Claim

@[expose] public section

set_option maxRecDepth 16384

noncomputable section

namespace Cert.Kernel17Ideal.NsaGate

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

/-- The result element by element, over whole arrays. -/
def gates (a : FVec Ideal S16384x4096 .bf16) (w : FVec Ideal S4096x128 .bf16) : FVec Ideal S16384x128 .f32 :=
  fun j => (Ideal.logistic (∑ k : Fin 4096, a (ix2 (j 0) k) * w (ix2 k (j 1))) : EReal)

/-- Which block of each array a grid point works on. -/
theorem idx : ∀ t : Fin cfg0.N, win0_0.index t = ![t.val, 0] ∧ win0_1.index t = ![0, 0]
    ∧ win0_2.index t = ![t.val, 0] :=
  (by decide +kernel : ∀ t : Fin grid0.N, _)

/-- One tile: what a grid point stores is `gates` at the place of the tile. -/
theorem point (c : Dev nD) (t : Fin cfg0.N) (y) : k0_pay1 (iblk m c 0 t) (iblk m c 1 t) y
    = gates (m ((c : Thread nD τ).loc main_arg0)) (m ((c : Thread nD τ).loc main_arg1))
        (((cfg0.win 2).blk t).view.emb y) := by
  idx_vars y
  pointwise [k0_pay1, gates]
  blk_point [iblk, V, idx t]

/-- The tiles fill the result: it ends holding `gates` of the arguments. -/
theorem final (c : Dev nD) : (dats m 0 c).arrAt 2 (cfgs 0).N
    = gates (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel17Ideal.NsaGate

namespace Cert.Reference17Ideal.NsaGate

open Cert.Reference17Ideal Cert.Reference17Ideal.Gen Cert.Reference17Ideal.Read Idealize.ShloMosaic

/-- The reference's result is the same function of its arguments. -/
theorem reference (a : FVec Ideal S16384x4096 .bf16) (w : FVec Ideal S4096x128 .bf16) :
    val_main_v6 (F := Ideal) a w = Cert.Kernel17Ideal.NsaGate.gates a w := by
  funext j
  idx_vars j
  pointwise [val_main_v6, val_main_v5, val_main_v4, val_main_v3, val_main_v2, val_main_v1, val_main_v0, val_main_cst, val_main_cst_0, Cert.Kernel17Ideal.NsaGate.gates]
  rfl

end Cert.Reference17Ideal.NsaGate

/-- Kernel and reference leave the same result. -/
theorem Cert.Kernel17Ideal.NsaGate.algebraic : Cert.algebraic_Kernel17Ideal_Reference17Ideal := by
  pair_intro
  · run_from Cert.Kernel17Ideal.Gen.run_main m g
  · run_from Cert.Reference17Ideal.Value.run m' g'
    exact (Cert.Reference17Ideal.Read.val_main_v6_eq _ _).trans
      ((Cert.Reference17Ideal.NsaGate.reference _ _).trans (Cert.Kernel17Ideal.NsaGate.final m c).symm)

end
-- ==== Proof.ShortConv.lean ====
/-
  The gated convolution's middle: each column's products `c * h` are weighed over a row and the two rows before it,
  with zeros before the first row, and the result is gated by `b`.

  The kernel computes tiles of 512 rows by 512 columns. It sets the eight rows before the tile (zeros, at the first
  rows) above the tile's own, and turns the stack by one and by two rows. The weights' three rows come laid at the head
  of eight. Every tile is the tile of one function `conv` of the arrays, and the tiles fill the result.
-/
module

public import proofs.«01_k».proof.Defs
public import proofs.«01_k».proof.Proof.Gen.Kernel18Ideal.Value
public import proofs.«01_k».proof.Proof.Gen.Reference18Ideal.Read
public import Idealize.ShloMosaic.Lib.Pipeline.ValueKit
public import Idealize.ShloMosaic.Lib.Claim
public import Idealize.ShloMosaic.Lib.Routing.OpsSet
public import Idealize.ShloMosaic.Lib.Routing.OpsPair

@[expose] public section

set_option maxRecDepth 16384

noncomputable section

namespace Cert.Kernel18Ideal.ShortConv

open Cert.Kernel18Ideal Cert.Kernel18Ideal.Gen
open Idealize.ShloMosaic Idealize.ShloMosaic.TcCoe Idealize.SL.Sem
open Idealize.ShloMosaic.Pipeline (Dat)

variable (m : (ℓ : Loc nD τ sig) → Buf (Elt Ideal) ℓ)

/-- The product that is convolved, at row `i` and column `e`. -/
def gated (z : FVec Ideal S16384x6144 .f32) (i : Fin 16384) (e : Fin 2048) : EReal :=
  z (ix2 i ⟨2048 + e.val, by omega⟩) * z (ix2 i ⟨4096 + e.val, by omega⟩)

/-- The product `n` rows earlier, zero before the first row. -/
def earlier (z : FVec Ideal S16384x6144 .f32) (n : Nat) (i : Fin 16384) (e : Fin 2048) : EReal :=
  if i.val < n then 0 else gated z ⟨i.val - n, by omega⟩ e

/-- The result element by element, over whole arrays. -/
def conv (z : FVec Ideal S16384x6144 .f32) (w : FVec Ideal S3x2048 .f32) : FVec Ideal S16384x2048 .bf16 := fun j =>
  (z (ix2 (j 0) ⟨(j 1).val, by have h : (j 1).val < 2048 := (j 1).isLt; omega⟩)
    * (w (ix2 0 (j 1)) * earlier z 2 (j 0) (j 1) + w (ix2 1 (j 1)) * earlier z 1 (j 0) (j 1)
      + w (ix2 2 (j 1)) * gated z (j 0) (j 1)) : EReal)

/-- Where the weights' rows are laid: at the top. -/
def top : IVec S1 32 := broadcastInDim S1 ![] bcast_S_S1 (constantI S_ 32 0#32)

/-- The three rows of weights at the top of eight, zeros below. -/
def laid (w : FVec Ideal S3x2048 .f32) : FVec Ideal S8x2048 .f32 :=
  Host.scatter scatter_S8x2048_S1_S3x2048_01_n_0_0 (fun _ b => b)
    (broadcastInDim S8x2048 ![] bcast_S_S8x2048 (constant (F := Ideal) S_ .f32 0#32)) top w

/-- A weight lands in its own row and column. -/
theorem lands (k : Fin 3) (d : Fin 2048) (r : Fin 8) (e : Fin 2048) :
    scatter_S8x2048_S1_S3x2048_01_n_0_0.resultIdx? (ix2 k d) top = some (ix2 r e)
      ↔ k.val = r.val ∧ d.val = e.val := by
  have h0 : scatter_S8x2048_S1_S3x2048_01_n_0_0.start (ix2 k d) top 0 = 0 := rfl
  have h1 : scatter_S8x2048_S1_S3x2048_01_n_0_0.window (ix2 k d) 0 = k.val := rfl
  have h2 : scatter_S8x2048_S1_S3x2048_01_n_0_0.start (ix2 k d) top 1 = 0 := rfl
  have h3 : scatter_S8x2048_S1_S3x2048_01_n_0_0.window (ix2 k d) 1 = d.val := rfl
  refine (Routing.resultIdx?_ix2 _ _ _ _ _).trans ?_
  rw [h0, h1, h2, h3]
  omega

/-- The top three of the eight rows hold the weights. -/
theorem laid_apply (w : FVec Ideal S3x2048 .f32) (k : Fin 3) (e : Fin 2048) :
    laid w (ix2 ⟨k.val, by omega⟩ e) = w (ix2 k e) := by
  refine Routing.scatter_set_hit _ _ _ _ _ _ (fun q hq => ?_) (ix2 k e) ((lands _ _ _ _).2 ⟨rfl, rfl⟩)
  obtain ⟨a, b, rfl⟩ : ∃ (a : Fin 3) (b : Fin 2048), q = ix2 a b :=
    ⟨q 0, q 1, by funext i; match i with | 0 => rfl | 1 => rfl⟩
  obtain ⟨h1, h2⟩ := (lands a b _ e).1 hq
  rw [show a = k from Fin.ext h1, show b = e from Fin.ext h2]

/-- The host lays the weights out. -/
theorem host_w (c : Dev nD) : V m c main_v2 = laid (m ((c : Thread nD τ).loc main_arg1)) := by
  simp only [V, List.flatten_cons, List.flatten_nil, List.append_nil]
  after_results
  rfl

/-- The choice at a tile's first rows: zeros at the first rows of all. -/
theorem positive : ∀ a : Fin 32, Scalar.cmpi .sgt (BitVec.ofNat 32 a.val) 0#32 = if 0 < a.val then 1#1 else 0#1 := by
  decide

/-- The product `n ≤ 8` rows above row `r` of a tile: the tile's own, or one of the eight rows before it, or zero. -/
def above (a : Nat) (u : Fin 512 → EReal) (v : Fin 8 → EReal) (n : Nat) (hn : n ≤ 8) (r : Fin 512) : EReal :=
  if h : r.val < n then (if 0 < a then v ⟨8 + r.val - n, by omega⟩ else 0) else u ⟨r.val - n, by omega⟩

/-- A tile, element by element. -/
theorem tile (i : grid0.Coords) (b c h : FVec Ideal S512x512 .f32) (ch hh w : FVec Ideal S8x512 .f32)
    (r e : Fin 512) :
    out0_6 (F := Ideal) i b c h ch hh w (ix2 r e)
      = (b (ix2 r e) * (w (ix2 2 e) * (c (ix2 r e) * h (ix2 r e))
          + w (ix2 1 e) * above (i 0).val (fun k => (c (ix2 k e) * h (ix2 k e) : EReal))
              (fun k => (ch (ix2 k e) * hh (ix2 k e) : EReal)) 1 (by omega) r
          + w (ix2 0 e) * above (i 0).val (fun k => (c (ix2 k e) * h (ix2 k e) : EReal))
              (fun k => (ch (ix2 k e) * hh (ix2 k e) : EReal)) 2 (by omega) r) : EReal) := by
  frame_out
  pointwise [k0_pay1]
  have hs := positive (i 0)
  rw [hs]
  have e1 : (8 + r.val + 520 - 1) % 520 = 7 + r.val := by omega
  have e2 : (8 + r.val + 520 - 2) % 520 = 6 + r.val := by omega
  simp only [e1, e2]
  congr 2
  · congr 2
    unfold above
    by_cases hr : r.val < 1
    · rw [dif_pos hr, dif_pos (by omega)]
      by_cases ha : 0 < (i 0).val
      · rw [if_pos ha, if_pos ha]
        simp only [show 8 + r.val - 1 = 7 + r.val by omega]; rfl
      · rw [if_neg ha, if_neg ha]; rfl
    · rw [dif_neg hr, dif_neg (by omega)]
      simp only [show 7 + r.val - 8 = r.val - 1 by omega]
  · congr 1
    unfold above
    by_cases hr : r.val < 2
    · rw [dif_pos hr, dif_pos (by omega)]
      by_cases ha : 0 < (i 0).val
      · rw [if_pos ha, if_pos ha]
        simp only [show 8 + r.val - 2 = 6 + r.val by omega]; rfl
      · rw [if_neg ha, if_neg ha]; rfl
    · rw [dif_neg hr, dif_neg (by omega)]
      simp only [show 6 + r.val - 8 = r.val - 2 by omega]

/-- Which block of each array a grid point works on. -/
theorem idx : ∀ t : Fin cfg0.N, win0_0.index t = ![t.val / 4, t.val % 4]
    ∧ win0_1.index t = ![t.val / 4, 4 + t.val % 4]
    ∧ win0_2.index t = ![t.val / 4, 8 + t.val % 4]
    ∧ win0_3.index t = ![t.val / 4 * 64 - 1, 4 + t.val % 4]
    ∧ win0_4.index t = ![t.val / 4 * 64 - 1, 8 + t.val % 4]
    ∧ win0_5.index t = ![0, t.val % 4]
    ∧ win0_6.index t = ![t.val / 4, t.val % 4] :=
  (by decide +kernel : ∀ t : Fin grid0.N, _)

/-- A grid point's first coordinate. -/
theorem coord : ∀ t : Fin cfg0.N, (grid0.coords t 0).val = t.val / 4 := (by decide +kernel : ∀ t : Fin grid0.N, _)

/-- Row `r` of a grid point's block of rows. -/
def row (t : Fin cfg0.N) (r : Fin 512) : Fin 16384 :=
  ⟨t.val / 4 * 512 + r.val, by have := t.isLt; have : cfg0.N = 128 := N_0; omega⟩

/-- Row `k` of the eight rows before a grid point's block. -/
def pre (t : Fin cfg0.N) (k : Fin 8) : Fin 16384 :=
  ⟨(t.val / 4 * 64 - 1) * 8 + k.val, by have := t.isLt; have : cfg0.N = 128 := N_0; omega⟩

/-- Column `e` of a grid point's block of columns. -/
def col (t : Fin cfg0.N) (e : Fin 512) : Fin 2048 := ⟨t.val % 4 * 512 + e.val, by omega⟩

/-- The blocks of the input. -/
theorem read_b (c : Dev nD) (t : Fin cfg0.N) (r e : Fin 512) :
    iblk m c 0 t (ix2 r e) = (m ((c : Thread nD τ).loc main_arg0)) (ix2 (row t r) ⟨(col t e).val, by omega⟩) := by
  blk_point [iblk, V, idx t]
  all_goals simp only [row, col]

theorem read_c (c : Dev nD) (t : Fin cfg0.N) (r e : Fin 512) :
    iblk m c 1 t (ix2 r e) = (m ((c : Thread nD τ).loc main_arg0)) (ix2 (row t r) ⟨2048 + (col t e).val, by omega⟩) := by
  blk_point [iblk, V, idx t]
  all_goals (simp only [row, col]; try omega)

theorem read_h (c : Dev nD) (t : Fin cfg0.N) (r e : Fin 512) :
    iblk m c 2 t (ix2 r e) = (m ((c : Thread nD τ).loc main_arg0)) (ix2 (row t r) ⟨4096 + (col t e).val, by omega⟩) := by
  blk_point [iblk, V, idx t]
  all_goals (simp only [row, col]; try omega)

/-- The rows before them. -/
theorem read_ch (c : Dev nD) (t : Fin cfg0.N) (k : Fin 8) (e : Fin 512) :
    iblk m c 3 t (ix2 k e) = (m ((c : Thread nD τ).loc main_arg0)) (ix2 (pre t k) ⟨2048 + (col t e).val, by omega⟩) := by
  blk_point [iblk, V, idx t]
  all_goals (simp only [pre, col]; try omega)

theorem read_hh (c : Dev nD) (t : Fin cfg0.N) (k : Fin 8) (e : Fin 512) :
    iblk m c 4 t (ix2 k e) = (m ((c : Thread nD τ).loc main_arg0)) (ix2 (pre t k) ⟨4096 + (col t e).val, by omega⟩) := by
  blk_point [iblk, V, idx t]
  all_goals (simp only [pre, col]; try omega)

/-- The weights. -/
theorem read_w (c : Dev nD) (t : Fin cfg0.N) (k : Fin 3) (e : Fin 512) :
    iblk m c 5 t (ix2 ⟨k.val, by omega⟩ e) = (m ((c : Thread nD τ).loc main_arg1)) (ix2 k (col t e)) := by
  refine Eq.trans ?_ ((congrFun (host_w m c) (ix2 ⟨k.val, by omega⟩ (col t e))).trans (laid_apply _ _ _))
  blk_point [iblk, idx t]
  all_goals simp only [col]

/-- The row above in a tile is the row before in the array. -/
theorem above_eq (z : FVec Ideal S16384x6144 .f32) (t : Fin cfg0.N) (n : Nat) (hn : n ≤ 8) (r e : Fin 512) :
    above (t.val / 4) (fun k => gated z (row t k) (col t e)) (fun k => gated z (pre t k) (col t e)) n hn r
      = earlier z n (row t r) (col t e) := by
  unfold above earlier
  by_cases hr : r.val < n
  · rw [dif_pos hr]
    by_cases ha : 0 < t.val / 4
    · rw [if_pos ha, if_neg (by simp only [row]; omega)]
      exact congrArg (fun i => gated z i (col t e)) (Fin.ext (by simp only [row, pre]; omega))
    · rw [if_neg ha, if_pos (by simp only [row]; omega)]
  · rw [dif_neg hr, if_neg (by simp only [row]; omega)]
    exact congrArg (fun i => gated z i (col t e)) (Fin.ext (by simp only [row]; omega))

/-- The order of the three terms does not matter. -/
theorem regroup (b w0 w1 w2 u x1 x2 y1 y2 : EReal) (h1 : x1 = y1) (h2 : x2 = y2) :
    b * (w2 * u + w1 * x1 + w0 * x2) = b * (w0 * y2 + w1 * y1 + w2 * u) := by
  rw [h1, h2, add_comm (w2 * u) (w1 * y1), add_comm (w1 * y1 + w2 * u) (w0 * y2), add_assoc (w0 * y2)]

/-- One tile: what a grid point stores is `conv` at the place of the tile. -/
theorem point (c : Dev nD) (t : Fin cfg0.N) (r e : Fin 512) :
    out0_6 (grid0.coords t) (iblk m c 0 t) (iblk m c 1 t) (iblk m c 2 t) (iblk m c 3 t) (iblk m c 4 t) (iblk m c 5 t)
        (ix2 r e)
      = conv (m ((c : Thread nD τ).loc main_arg0)) (m ((c : Thread nD τ).loc main_arg1)) (ix2 (row t r) (col t e)) := by
  have w0 : iblk m c 5 t (ix2 0 e) = (m ((c : Thread nD τ).loc main_arg1)) (ix2 0 (col t e)) := read_w m c t 0 e
  have w1 : iblk m c 5 t (ix2 1 e) = (m ((c : Thread nD τ).loc main_arg1)) (ix2 1 (col t e)) := read_w m c t 1 e
  have w2 : iblk m c 5 t (ix2 2 e) = (m ((c : Thread nD τ).loc main_arg1)) (ix2 2 (col t e)) := read_w m c t 2 e
  have a1 := above_eq (m ((c : Thread nD τ).loc main_arg0)) t 1 (by omega) r e
  have a2 := above_eq (m ((c : Thread nD τ).loc main_arg0)) t 2 (by omega) r e
  refine (tile _ _ _ _ _ _ _ r e).trans ?_
  simp only [read_b, read_c, read_h, read_ch, read_hh, coord, w0, w1, w2]
  exact regroup _ _ _ _ _ _ _ _ _ a1 a2

/-- The tiles fill the result: it ends holding `conv` of the arguments. -/
theorem final (c : Dev nD) : (dats m 0 c).arrAt 6 (cfgs 0).N
    = conv (m ((c : Thread nD τ).loc main_arg0)) (m ((c : Thread nD τ).loc main_arg1)) := by
  refine (dats m 0 c).arrAt_eq_of_covers 6 _ (by decide +kernel) fun t _ y => ?_
  idx_vars y
  blk_simp
  rw [after0_6]
  refine (point m c t y0 y1).trans (congrArg (conv _ _) ?_)
  blk_ext [idx t]
  all_goals simp only [row, col]

end Cert.Kernel18Ideal.ShortConv

namespace Cert.Reference18Ideal.ShortConv

open Cert.Reference18Ideal Cert.Reference18Ideal.Gen Cert.Reference18Ideal.Read Idealize.ShloMosaic
open Cert.Kernel18Ideal.ShortConv (gated earlier conv)

/-- The reference's result is the same function of its arguments. -/
theorem reference (z : FVec Ideal S16384x6144 .f32) (w : FVec Ideal S3x2048 .f32) :
    val_main_v27 (F := Ideal) z w = conv z w := by
  funext j
  idx_vars j
  pointwise [val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, conv, earlier, gated]
  by_cases h1 : j0.val < 1
  · simp only [dif_pos (show j0.val < 2 by omega), dif_pos (show 1 + j0.val < 2 by omega),
      if_pos (show j0.val < 2 by omega), if_pos h1]
  · by_cases h2 : j0.val < 2
    · simp only [dif_pos h2, if_pos h2, dif_neg (show ¬ 1 + j0.val < 2 by omega), if_neg h1,
        show 1 + j0.val - 2 = j0.val - 1 by omega]
    · simp only [dif_neg h2, if_neg h2, dif_neg (show ¬ 1 + j0.val < 2 by omega), if_neg h1,
        show 1 + j0.val - 2 = j0.val - 1 by omega]

end Cert.Reference18Ideal.ShortConv

namespace Cert.Kernel18Ideal.ShortConv

open Idealize.ShloMosaic Idealize.ShloMosaic.TcCoe Idealize.SL.Sem Cert.Kernel18Ideal.Gen

/-- Kernel and reference leave the same result. -/
theorem algebraic : Cert.algebraic_Kernel18Ideal_Reference18Ideal := by
  intro m g m' g' _ hagree
  refine ⟨fun c => (dats m 0 c).arrAt 6 (cfgs 0).N, ?_, ?_⟩
  · exact Cert.Kernel18Ideal.Value.run_blocks m g
  · refine (θ_run Cert.Reference18Ideal.defs _ _).mono (fun r h c => ⟨(h c).1.trans ?_, (h c).2⟩)
      (Cert.Reference18Ideal.Value.run m' g')
    obtain ⟨e0, e1⟩ := hagree c
    refine (Cert.Reference18Ideal.Read.val_main_v27_eq _ _).trans ?_
    rw [e0, e1]
    exact (Cert.Reference18Ideal.ShortConv.reference _ _).trans (final m c).symm

end Cert.Kernel18Ideal.ShortConv

end
-- ==== Proof.RopeTables.lean ====
/-
  The rotary angles' three tables: the cosines, the sines' negatives and the sines of `position * frequency`, each of
  16 columns set beside or between constants so that a head of 128 places is turned by three products.

  The kernel lays the 16 frequencies twice at the head of a row of 128 zeros, takes the cosine and the sine of all 128
  products, and picks by the column's number what is kept. The plain form takes 16 cosines and sines a row and lays
  them side by side with the constants. In the columns where the kernel keeps a cosine or a sine, the row holds that
  column's frequency.
-/
module

public import proofs.«01_k».proof.Defs
public import proofs.«01_k».proof.Proof.HeadTurn
public import proofs.«01_k».proof.Proof.Gen.Kernel19Ideal.Value
public import proofs.«01_k».proof.Proof.Gen.Reference19Ideal.Read
public import Idealize.ShloMosaic.Lib.Pipeline.ValueKit
public import Idealize.ShloMosaic.Lib.Claim
public import Idealize.ShloMosaic.Lib.Routing.OpsSet

@[expose] public section

set_option maxRecDepth 16384

noncomputable section

namespace Cert.Kernel19Ideal.RopeTables

open Cert.Kernel19Ideal Cert.Kernel19Ideal.Gen Cert.HeadTurn
open Idealize.ShloMosaic Idealize.ShloMosaic.TcCoe Idealize.SL.Sem
open Idealize.ShloMosaic.Pipeline (Dat)

variable (m : (ℓ : Loc nD τ sig) → Buf (Elt Ideal) ℓ)

/-- The 16 frequencies: powers of the base. -/
def freqs : FVec Ideal S16 .f32 :=
  Host.powf (broadcastInDim S16 ![] bcast_S_S16 (constant (F := Ideal) S_ .f32 0x48F42400#32))
    (Host.divf (Host.negf (sitofp .f32 (iotaInDim S16 32 0)))
      (broadcastInDim S16 ![] bcast_S_S16 (constant (F := Ideal) S_ .f32 0x41800000#32)))

/-- A position as a number. -/
def pos (p : IVec S16384 32) (i : Fin 16384) : EReal := sitofp (F := Ideal) .f32 p (ix1 i)

/-- The three tables, element by element. -/
def cosRows (p : IVec S16384 32) : FVec Ideal S16384x128 .f32 := fun j =>
  (cosAt (fun e => Ideal.cos (pos p (j 0) * freqs (ix1 e) : EReal)) (j 1) : EReal)

def negRows (p : IVec S16384 32) : FVec Ideal S16384x128 .f32 := fun j =>
  (negAt (fun e => Ideal.sin (pos p (j 0) * freqs (ix1 e) : EReal)) (j 1) : EReal)

def sinRows (p : IVec S16384 32) : FVec Ideal S16384x128 .f32 := fun j =>
  (sinAt (fun e => Ideal.sin (pos p (j 0) * freqs (ix1 e) : EReal)) (j 1) : EReal)

/-- Where the frequencies are laid in the row: at its head. -/
def head : IVec S1 32 := broadcastInDim S1 ![] bcast_S_S1 (constantI S_ 32 0#32)

/-- The frequencies twice. -/
def twice : FVec Ideal S32 .f32 := concatenate S32 0 [⟨S16, freqs⟩, ⟨S16, freqs⟩] concatenates_S16_S16_S32_d0

/-- The row of 128: the frequencies twice at its head, zeros after them. -/
def laid : FVec Ideal S128 .f32 :=
  Host.scatter scatter_S128_S1_S32_0_n_0_0 (fun _ b => b)
    (broadcastInDim S128 ![] bcast_S_S128 (constant (F := Ideal) S_ .f32 0#32)) head twice

/-- The `k`-th of the twice sixteen lands at the `k`-th place. -/
theorem lands (k : Fin 32) (e : Fin 128) :
    scatter_S128_S1_S32_0_n_0_0.resultIdx? (ix1 k) head = some (ix1 e) ↔ k.val = e.val := by
  have h0 : scatter_S128_S1_S32_0_n_0_0.start (ix1 k) head 0 = 0 := rfl
  have h1 : scatter_S128_S1_S32_0_n_0_0.window (ix1 k) 0 = k.val := rfl
  refine (Routing.resultIdx?_ix1 _ _ _ _).trans ?_
  rw [h0, h1]
  omega

/-- The row's first 32 places hold the twice sixteen. -/
theorem laid_apply (e : Fin 128) (h : e.val < 32) : laid (ix1 e) = twice (ix1 ⟨e.val, h⟩) := by
  refine Routing.scatter_set_hit _ _ _ _ _ _ (fun k hk => ?_) (ix1 ⟨e.val, h⟩) ((lands _ _).2 rfl)
  obtain ⟨k, rfl⟩ : ∃ k0 : Fin 32, k = ix1 k0 := ⟨k 0, by funext i; match i with | 0 => rfl⟩
  have hk' : k = ⟨e.val, h⟩ := Fin.ext ((lands k e).1 hk)
  rw [hk']

/-- The row's first and second sixteen places hold the frequencies. -/
theorem laid_first (e : Fin 128) (h : e.val < 16) : laid (ix1 e) = freqs (ix1 ⟨e.val, h⟩) := by
  refine (laid_apply e (by omega)).trans ?_
  pointwise [twice]
  exact dif_pos h

theorem laid_second (e : Fin 128) (h : ¬ e.val < 16) (h' : e.val - 16 < 16) :
    laid (ix1 e) = freqs (ix1 ⟨e.val - 16, h'⟩) := by
  refine (laid_apply e (by omega)).trans ?_
  pointwise [twice]
  exact dif_neg h

/-- The host lays the row out, -/
theorem host_row (c : Dev nD) : V m c main_v13 = shapeCast S1x128 laid shapeCasts_S128_S1x128 := by
  simp only [V, List.flatten_cons, List.flatten_nil, List.append_nil]
  after_results
  rfl

/-- and the positions over 128 columns. -/
theorem host_pos (c : Dev nD) : V m c main_v12 = broadcastInDim S16384x128 ![0, 1] bcast_S16384x1_S16384x128_0_1
    (broadcastInDim S16384x1 ![0] bcast_S16384_S16384x1_0
      (sitofp (F := Ideal) .f32 (m ((c : Thread nD τ).loc main_arg0)))) := by
  simp only [V, List.flatten_cons, List.flatten_nil, List.append_nil]
  after_results

/-- Which columns each choice keeps. -/
theorem below32 : ∀ e : Fin 128,
    IntOp.cmpi .slt (BitVec.ofNat 32 e.val) 32#32 = if e.val < 32 then 1#1 else 0#1 := by decide

theorem below16 : ∀ e : Fin 128,
    IntOp.cmpi .slt (BitVec.ofNat 32 e.val) 16#32 = if e.val < 16 then 1#1 else 0#1 := by decide

theorem between : ∀ e : Fin 128,
    IntOp.andi (IntOp.cmpi .sge (BitVec.ofNat 32 e.val) 16#32) (IntOp.cmpi .slt (BitVec.ofNat 32 e.val) 32#32)
      = if ¬ e.val < 16 ∧ e.val < 32 then 1#1 else 0#1 := by decide

/-- The tiles, from the numbers of their rows and the frequencies of their columns. -/
theorem cos_tile (x : FVec Ideal S1024x128 .f32) (w : FVec Ideal S1x128 .f32) (r : Fin 1024) (e : Fin 128) (z : EReal)
    (hx : x (ix2 r e) = z) (hw : w (ix2 0 e) = laid (ix1 e)) :
    out0_2 (F := Ideal) x w (ix2 r e) = (cosAt (fun i => Ideal.cos (z * freqs (ix1 i) : EReal)) e : EReal) := by
  frame_out
  pointwise [k0_pay3, k0_pay1]
  rw [below32, hx, hw]
  unfold cosAt
  by_cases h : e.val < 16
  · rw [dif_pos h, if_pos (by omega), laid_first e h]; rfl
  · by_cases h' : e.val - 16 < 16
    · rw [dif_neg h, dif_pos h', if_pos (by omega), laid_second e h h']; rfl
    · rw [dif_neg h, dif_neg h', if_neg (by omega)]; rfl

theorem neg_tile (x : FVec Ideal S1024x128 .f32) (w : FVec Ideal S1x128 .f32) (r : Fin 1024) (e : Fin 128) (z : EReal)
    (hx : x (ix2 r e) = z) (hw : w (ix2 0 e) = laid (ix1 e)) :
    out0_3 (F := Ideal) x w (ix2 r e) = (negAt (fun i => Ideal.sin (z * freqs (ix1 i) : EReal)) e : EReal) := by
  frame_out
  pointwise [k0_pay4, k0_pay2, k0_pay1]
  rw [below16, hx, hw]
  unfold negAt
  by_cases h : e.val < 16
  · rw [dif_pos h, if_pos h, laid_first e h]
    exact zero_sub _
  · rw [dif_neg h, if_neg h]; rfl

theorem sin_tile (x : FVec Ideal S1024x128 .f32) (w : FVec Ideal S1x128 .f32) (r : Fin 1024) (e : Fin 128) (z : EReal)
    (hx : x (ix2 r e) = z) (hw : w (ix2 0 e) = laid (ix1 e)) :
    out0_4 (F := Ideal) x w (ix2 r e) = (sinAt (fun i => Ideal.sin (z * freqs (ix1 i) : EReal)) e : EReal) := by
  frame_out
  pointwise [k0_pay5, k0_pay2, k0_pay1]
  rw [between, hx, hw]
  unfold sinAt
  by_cases h : e.val < 16
  · rw [if_pos h, if_neg (by omega)]; rfl
  · by_cases h' : e.val - 16 < 16
    · rw [if_neg h, dif_pos h', if_pos (by omega), laid_second e h h']; rfl
    · rw [if_neg h, dif_neg h', if_neg (by omega)]; rfl

/-- Which block of each array a grid point works on. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0] :=
  (by decide +kernel : ∀ t : Fin grid0.N, _)

/-- Row `r` of a grid point's block of rows. -/
def row (t : Fin cfg0.N) (r : Fin 1024) : Fin 16384 :=
  ⟨t.val * 1024 + r.val, by have := t.isLt; have : cfg0.N = 16 := N_0; omega⟩

/-- A block of the positions. -/
theorem read_pos (c : Dev nD) (t : Fin cfg0.N) (r : Fin 1024) (e : Fin 128) :
    iblk m c 0 t (ix2 r e) = pos (m ((c : Thread nD τ).loc main_arg0)) (row t r) := by
  have h : V m c main_v12 (ix2 (row t r) e) = pos (m ((c : Thread nD τ).loc main_arg0)) (row t r) := by
    refine (congrFun (host_pos m c) (ix2 (row t r) e)).trans ?_
    pointwise [pos]
  refine Eq.trans ?_ h
  blk_point [iblk, idx t]
  all_goals simp only [row]

/-- The row of frequencies. -/
theorem read_row (c : Dev nD) (t : Fin cfg0.N) (e : Fin 128) : iblk m c 1 t (ix2 0 e) = laid (ix1 e) := by
  have h : V m c main_v13 (ix2 0 e) = laid (ix1 e) := by
    refine (congrFun (host_row m c) (ix2 0 e)).trans ?_
    pointwise []
  refine Eq.trans ?_ h
  blk_point [iblk, idx t]

/-- The tiles fill the three results. -/
theorem final_cos (c : Dev nD) : (dats m 0 c).arrAt 2 (cfgs 0).N = cosRows (m ((c : Thread nD τ).loc main_arg0)) := by
  refine (dats m 0 c).arrAt_eq_of_covers 2 _ (by decide +kernel) fun t _ y => ?_
  idx_vars y
  blk_simp
  rw [after0_2]
  refine (cos_tile _ _ y0 y1 _ (read_pos m c t y0 y1) (read_row m c t y1)).trans ?_
  refine Eq.trans (b := cosRows (m ((c : Thread nD τ).loc main_arg0)) (ix2 (row t y0) y1)) rfl (congrArg (cosRows _) ?_)
  blk_ext [idx t]
  all_goals simp only [row]

theorem final_neg (c : Dev nD) : (dats m 0 c).arrAt 3 (cfgs 0).N = negRows (m ((c : Thread nD τ).loc main_arg0)) := by
  refine (dats m 0 c).arrAt_eq_of_covers 3 _ (by decide +kernel) fun t _ y => ?_
  idx_vars y
  blk_simp
  rw [after0_3]
  refine (neg_tile _ _ y0 y1 _ (read_pos m c t y0 y1) (read_row m c t y1)).trans ?_
  refine Eq.trans (b := negRows (m ((c : Thread nD τ).loc main_arg0)) (ix2 (row t y0) y1)) rfl (congrArg (negRows _) ?_)
  blk_ext [idx t]
  all_goals simp only [row]

theorem final_sin (c : Dev nD) : (dats m 0 c).arrAt 4 (cfgs 0).N = sinRows (m ((c : Thread nD τ).loc main_arg0)) := by
  refine (dats m 0 c).arrAt_eq_of_covers 4 _ (by decide +kernel) fun t _ y => ?_
  idx_vars y
  blk_simp
  rw [after0_4]
  refine (sin_tile _ _ y0 y1 _ (read_pos m c t y0 y1) (read_row m c t y1)).trans ?_
  refine Eq.trans (b := sinRows (m ((c : Thread nD τ).loc main_arg0)) (ix2 (row t y0) y1)) rfl (congrArg (sinRows _) ?_)
  blk_ext [idx t]
  all_goals simp only [row]

end Cert.Kernel19Ideal.RopeTables

namespace Cert.Reference19Ideal.RopeTables

open Cert.Reference19Ideal Cert.Reference19Ideal.Gen Cert.Reference19Ideal.Read Idealize.ShloMosaic
open Cert.HeadTurn
open Cert.Kernel19Ideal.RopeTables (freqs pos cosRows negRows sinRows)

/-- The reference's frequencies are the same. -/
theorem frequencies : val_main_v5 (F := Ideal) = freqs := rfl

/-- The reference's three tables are the same functions of the positions. -/
theorem cosines (p : IVec S16384 32) : val_main_v15 (F := Ideal) p = cosRows p := by
  funext j
  idx_vars j
  pointwise [val_main_v15, val_main_v14, val_main_v13, val_main_v12, val_main_v11, val_main_v10, val_main_v9,
    val_main_v8, val_main_v7, val_main_v6, val_main_cst_1, cosRows, cosAt, pos]
  simp only [frequencies]

theorem negatives (p : IVec S16384 32) : val_main_v18 (F := Ideal) p = negRows p := by
  funext j
  idx_vars j
  pointwise [val_main_v18, val_main_v17, val_main_v16, val_main_v13, val_main_v11, val_main_v10, val_main_v9,
    val_main_v8, val_main_v7, val_main_v6, val_main_cst_2, negRows, negAt, pos]
  simp only [frequencies]

theorem sines (p : IVec S16384 32) : val_main_v21 (F := Ideal) p = sinRows p := by
  funext j
  idx_vars j
  pointwise [val_main_v21, val_main_v20, val_main_v19, val_main_v13, val_main_v11, val_main_v10, val_main_v9,
    val_main_v8, val_main_v7, val_main_v6, val_main_cst_3, val_main_cst_4, sinRows, sinAt, pos]
  simp only [frequencies]
  split_ifs <;> rfl

end Cert.Reference19Ideal.RopeTables

namespace Cert.Kernel19Ideal.RopeTables

open Idealize.ShloMosaic Idealize.ShloMosaic.TcCoe Idealize.SL.Sem Cert.Kernel19Ideal.Gen

/-- Kernel and reference leave the same tables. -/
theorem algebraic : Cert.algebraic_Kernel19Ideal_Reference19Ideal := by
  intro m g m' g' _ hagree
  refine ⟨fun c => (dats m 0 c).arrAt 2 (cfgs 0).N, fun c => (dats m 0 c).arrAt 3 (cfgs 0).N,
    fun c => (dats m 0 c).arrAt 4 (cfgs 0).N, ?_, ?_⟩
  · exact Cert.Kernel19Ideal.Value.run_blocks m g
  · refine (θ_run Cert.Reference19Ideal.defs _ _).mono
      (fun r h c => ⟨(h c).1.trans ?_, (h c).2.1.trans ?_, (h c).2.2.1.trans ?_, (h c).2.2.2⟩)
      (Cert.Reference19Ideal.Value.run m' g')
    · refine (Cert.Reference19Ideal.Read.val_main_v15_eq _).trans ?_
      rw [hagree c]
      exact (Cert.Reference19Ideal.RopeTables.cosines _).trans (final_cos m c).symm
    · refine (Cert.Reference19Ideal.Read.val_main_v18_eq _).trans ?_
      rw [hagree c]
      exact (Cert.Reference19Ideal.RopeTables.negatives _).trans (final_neg m c).symm
    · refine (Cert.Reference19Ideal.Read.val_main_v21_eq _).trans ?_
      rw [hagree c]
      exact (Cert.Reference19Ideal.RopeTables.sines _).trans (final_sin m c).symm

end Cert.Kernel19Ideal.RopeTables

end
-- ==== Proof.lean ====
/- The proof of the certificate: the frames of the launches and references, the idealizations (which rewrite
   nothing), and the equalities between each kernel and its reference, proved in the modules imported here. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Pre_finite
public import proofs.«01_k».proof.Proof.Gen.KernelIdeal.Value
public import proofs.«01_k».proof.Proof.Gen.ReferenceIdeal.Read
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Fox
public import proofs.«01_k».proof.Proof.Swiglu
public import proofs.«01_k».proof.Proof.FfnDown
public import proofs.«01_k».proof.Proof.EmbedGate
public import proofs.«01_k».proof.Proof.OutProj
public import proofs.«01_k».proof.Proof.FoxQProj
public import proofs.«01_k».proof.Proof.FoxKProj
public import proofs.«01_k».proof.Proof.FoxVProj
public import proofs.«01_k».proof.Proof.ConvProj
public import proofs.«01_k».proof.Proof.NsaVProj
public import proofs.«01_k».proof.Proof.PoolProj
public import proofs.«01_k».proof.Proof.NsaQProj
public import proofs.«01_k».proof.Proof.NsaKProj
public import proofs.«01_k».proof.Proof.NsaKcmpProj
public import proofs.«01_k».proof.Proof.RmsNorm
public import proofs.«01_k».proof.Proof.FoxGate
public import proofs.«01_k».proof.Proof.NsaGate
public import proofs.«01_k».proof.Proof.ShortConv
public import proofs.«01_k».proof.Proof.RopeTables
public import Idealize.ShloMosaic.Adequacy
public import Idealize.ShloMosaic.Init

@[expose] public section

noncomputable section

namespace Cert.Proof

open Idealize.ShloMosaic Idealize.SL.Sem Cert.Kernel

/-- `Reference` leaves its arguments unchanged and declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The same under the precondition, which it does not need. -/
theorem reference_frame_finite : Cert.quiescent_ReferenceIdeal_pre_finite := fun m g _ => reference_frame m g trivial

/-- `Reference2` leaves its arguments unchanged and declares no semaphore. -/
theorem reference2_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- `Reference3` leaves its arguments unchanged and declares no semaphore. -/
theorem reference3_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- `Reference4` leaves its arguments unchanged and declares no semaphore. -/
theorem reference4_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- `Reference5` leaves its arguments unchanged and declares no semaphore. -/
theorem reference5_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- `Reference6` leaves its arguments unchanged and declares no semaphore. -/
theorem reference6_frame : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- `Reference7` leaves its arguments unchanged and declares no semaphore. -/
theorem reference7_frame : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- `Reference8` leaves its arguments unchanged and declares no semaphore. -/
theorem reference8_frame : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- `Reference9` leaves its arguments unchanged and declares no semaphore. -/
theorem reference9_frame : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- `Reference10` leaves its arguments unchanged and declares no semaphore. -/
theorem reference10_frame : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- `Reference11` leaves its arguments unchanged and declares no semaphore. -/
theorem reference11_frame : Cert.quiescent_Reference11Ideal := fun m g _ =>
  (θ_run Cert.Reference11Ideal.defs _ _).mono (fun r h => ⟨fun c => (h c).2, sem_eq_zero_of_no_sems (by decide) r.2⟩)
    (Cert.Reference11Ideal.Value.run m g)

/-- `Reference12` leaves its arguments unchanged and declares no semaphore. -/
theorem reference12_frame : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

/-- `Reference13` leaves its arguments unchanged and declares no semaphore. -/
theorem reference13_frame : Cert.quiescent_Reference13Ideal := fun m g _ =>
  (θ_run Cert.Reference13Ideal.defs _ _).mono (fun r h => ⟨fun c => (h c).2, sem_eq_zero_of_no_sems (by decide) r.2⟩)
    (Cert.Reference13Ideal.Value.run m g)

/-- `Reference14` leaves its arguments unchanged and declares no semaphore. -/
theorem reference14_frame : Cert.quiescent_Reference14Ideal := fun m g _ =>
  (θ_run Cert.Reference14Ideal.defs _ _).mono (fun r h => ⟨fun c => (h c).2, sem_eq_zero_of_no_sems (by decide) r.2⟩)
    (Cert.Reference14Ideal.Value.run m g)

/-- `Reference15` leaves its arguments unchanged and declares no semaphore. -/
theorem reference15_frame : Cert.quiescent_Reference15Ideal := fun m g _ =>
  (θ_run Cert.Reference15Ideal.defs _ _).mono (fun r h => ⟨fun c => (h c).2, sem_eq_zero_of_no_sems (by decide) r.2⟩)
    (Cert.Reference15Ideal.Value.run m g)

/-- `Reference16` leaves its arguments unchanged and declares no semaphore. -/
theorem reference16_frame : Cert.quiescent_Reference16Ideal := fun m g _ =>
  (θ_run Cert.Reference16Ideal.defs _ _).mono (fun r h => ⟨fun c => (h c).2, sem_eq_zero_of_no_sems (by decide) r.2⟩)
    (Cert.Reference16Ideal.Value.run m g)

/-- `Reference17` leaves its arguments unchanged and declares no semaphore. -/
theorem reference17_frame : Cert.quiescent_Reference17Ideal := fun m g _ =>
  (θ_run Cert.Reference17Ideal.defs _ _).mono (fun r h => ⟨fun c => (h c).2, sem_eq_zero_of_no_sems (by decide) r.2⟩)
    (Cert.Reference17Ideal.Value.run m g)

/-- `Reference18` leaves its arguments unchanged and declares no semaphore. -/
theorem reference18_frame : Cert.quiescent_Reference18Ideal := fun m g _ =>
  (θ_run Cert.Reference18Ideal.defs _ _).mono (fun r h => ⟨fun c => (h c).2, sem_eq_zero_of_no_sems (by decide) r.2⟩)
    (Cert.Reference18Ideal.Value.run m g)

/-- `Reference19` leaves its arguments unchanged and declares no semaphore. -/
theorem reference19_frame : Cert.quiescent_Reference19Ideal := fun m g _ =>
  (θ_run Cert.Reference19Ideal.defs _ _).mono (fun r h => ⟨fun c => (h c).2.2.2, sem_eq_zero_of_no_sems (by decide) r.2⟩)
    (Cert.Reference19Ideal.Value.run m g)

/-- All the claims of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  reference_frame_finite,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  fun m ρ _ => Cert.Kernel13.Gen.frame m ρ,
  fun m ρ _ => Cert.Kernel13Ideal.Gen.frame m ρ,
  reference13_frame,
  fun m ρ _ => Cert.Kernel14.Gen.frame m ρ,
  fun m ρ _ => Cert.Kernel14Ideal.Gen.frame m ρ,
  reference14_frame,
  fun m ρ _ => Cert.Kernel15.Gen.frame m ρ,
  fun m ρ _ => Cert.Kernel15Ideal.Gen.frame m ρ,
  reference15_frame,
  fun m ρ _ => Cert.Kernel16.Gen.frame m ρ,
  fun m ρ _ => Cert.Kernel16Ideal.Gen.frame m ρ,
  reference16_frame,
  fun m ρ _ => Cert.Kernel17.Gen.frame m ρ,
  fun m ρ _ => Cert.Kernel17Ideal.Gen.frame m ρ,
  reference17_frame,
  fun m ρ _ => Cert.Kernel18.Gen.frame m ρ,
  fun m ρ _ => Cert.Kernel18Ideal.Gen.frame m ρ,
  reference18_frame,
  fun m ρ _ => Cert.Kernel19.Gen.frame m ρ,
  fun m ρ _ => Cert.Kernel19Ideal.Gen.frame m ρ,
  reference19_frame,
  trivial,
  Cert.KernelIdeal.Fox.algebraic,
  trivial,
  Cert.Kernel2Ideal.Swiglu.algebraic,
  trivial,
  Cert.Kernel3Ideal.FfnDown.algebraic,
  trivial,
  Cert.Kernel4Ideal.EmbedGate.algebraic,
  trivial,
  Cert.Kernel5Ideal.OutProj.algebraic,
  trivial,
  Cert.Kernel6Ideal.FoxQProj.algebraic,
  trivial,
  Cert.Kernel7Ideal.FoxKProj.algebraic,
  trivial,
  Cert.Kernel8Ideal.FoxVProj.algebraic,
  trivial,
  Cert.Kernel9Ideal.ConvProj.algebraic,
  trivial,
  Cert.Kernel10Ideal.NsaVProj.algebraic,
  trivial,
  Cert.Kernel11Ideal.PoolProj.algebraic,
  trivial,
  Cert.Kernel12Ideal.NsaQProj.algebraic,
  trivial,
  Cert.Kernel13Ideal.NsaKProj.algebraic,
  trivial,
  Cert.Kernel14Ideal.NsaKcmpProj.algebraic,
  trivial,
  Cert.Kernel15Ideal.RmsNorm.algebraic,
  trivial,
  Cert.Kernel16Ideal.FoxGate.algebraic,
  trivial,
  Cert.Kernel17Ideal.NsaGate.algebraic,
  trivial,
  Cert.Kernel18Ideal.ShortConv.algebraic,
  trivial,
  Cert.Kernel19Ideal.RopeTables.algebraic⟩

end Cert.Proof

end
